-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x5120x7680 : Shape := ⟨3, ![1, 5120, 7680]⟩
abbrev S1x1770x128x128 : Shape := ⟨4, ![1, 1770, 128, 128]⟩
abbrev S1x1770 : Shape := ⟨2, ![1, 1770]⟩
abbrev S1x60x128x128 : Shape := ⟨4, ![1, 60, 128, 128]⟩
abbrev S1770 : Shape := ⟨1, ![1770]⟩
abbrev S5120x7680 : Shape := ⟨2, ![5120, 7680]⟩
abbrev S1770x128x128 : Shape := ⟨3, ![1770, 128, 128]⟩
abbrev S60x128x128 : Shape := ⟨3, ![60, 128, 128]⟩
abbrev S5120x128 : Shape := ⟨2, ![5120, 128]⟩
abbrev S128x7680 : Shape := ⟨2, ![128, 7680]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩
abbrev S1 : Shape := ⟨1, ![1]⟩

abbrev nBuf : Space → Nat
  | .hbm => 11
  | .vmem => 10
  | .smem => 1
  | _ => 0

abbrev bufTy : (tb : Table) → Fin (tcTables nBuf tb) → BufTy
  | .hbm, ⟨0, _⟩ => ⟨S1x5120x7680, .f32⟩
  | .hbm, ⟨1, _⟩ => ⟨S1x1770x128x128, .fp8e4m3⟩
  | .hbm, ⟨2, _⟩ => ⟨S1x1770, .f32⟩
  | .hbm, ⟨3, _⟩ => ⟨S1x60x128x128, .f32⟩
  | .hbm, ⟨4, _⟩ => ⟨S1770, .f32⟩
  | .hbm, ⟨5, _⟩ => ⟨S5120x7680, .f32⟩
  | .hbm, ⟨6, _⟩ => ⟨S1770x128x128, .fp8e4m3⟩
  | .hbm, ⟨7, _⟩ => ⟨S60x128x128, .f32⟩
  | .hbm, ⟨8, _⟩ => ⟨S5120x7680, .f32⟩
  | .hbm, ⟨9, _⟩ => ⟨S5120x7680, .fp8e4m3⟩
  | .hbm, ⟨10, _⟩ => ⟨S5120x128, .f32⟩
  | .local _ .vmem, ⟨0, _⟩ => ⟨S128x7680, .f32⟩
  | .local _ .vmem, ⟨1, _⟩ => ⟨S128x7680, .f32⟩
  | .local _ .vmem, ⟨2, _⟩ => ⟨S1770x128x128, .fp8e4m3⟩
  | .local _ .vmem, ⟨3, _⟩ => ⟨S60x128x128, .f32⟩
  | .local _ .vmem, ⟨4, _⟩ => ⟨S128x7680, .f32⟩
  | .local _ .vmem, ⟨5, _⟩ => ⟨S128x7680, .f32⟩
  | .local _ .vmem, ⟨6, _⟩ => ⟨S128x7680, .fp8e4m3⟩
  | .local _ .vmem, ⟨7, _⟩ => ⟨S128x7680, .fp8e4m3⟩
  | .local _ .vmem, ⟨8, _⟩ => ⟨S128x128, .f32⟩
  | .local _ .vmem, ⟨9, _⟩ => ⟨S128x128, .f32⟩
  | .local _ .smem, ⟨0, _⟩ => ⟨S1770, .f32⟩
  | _, _ => ⟨S1x5120x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![40], ![false]⟩

@[reducible] def k0_t1_loop : Scf.Loop 32 :=
  let c0_i32_5 : BitVec 32 := 0#32
  let c60_i32 : BitVec 32 := 60#32
  let v6 : BitVec 32 := Scalar.addi c0_i32_5 c60_i32
  let c1_i32 : BitVec 32 := 1#32
  ⟨c0_i32_5, v6, c1_i32⟩
def k0_mult1 (k0_t1 : Fin k0_t1_loop.trips) : BitVec 32 :=
  let c0_i32_5 : BitVec 32 := 0#32
  let c1_i32 : BitVec 32 := 1#32
  let arg8 : BitVec 32 := Scf.iv c0_i32_5 c1_i32 k0_t1
  let c128_i32 : BitVec 32 := 128#32
  let v8 : BitVec 32 := Scalar.muli arg8 c128_i32
  v8
def k0_off1 (k0_t1 : Fin k0_t1_loop.trips) : Fin 2 → Nat :=
  let c0_7 : Index := 0#32
  let c0_i32_5 : BitVec 32 := 0#32
  let c1_i32 : BitVec 32 := 1#32
  let arg8 : BitVec 32 := Scf.iv c0_i32_5 c1_i32 k0_t1
  let c128_i32 : BitVec 32 := 128#32
  let v8 : BitVec 32 := Scalar.muli arg8 c128_i32
  let v9 : BitVec 32 := v8
  let v10 : Index := Scalar.indexCast v9
  ![0, v10.toNat]
def k0_off2 (k0_t1 : Fin k0_t1_loop.trips) : Fin 3 → Nat :=
  let c0_i32_5 : BitVec 32 := 0#32
  let c1_i32 : BitVec 32 := 1#32
  let arg8 : BitVec 32 := Scf.iv c0_i32_5 c1_i32 k0_t1
  let v13 : Index := Scalar.indexCast arg8
  let c0_8 : Index := 0#32
  let c0_9 : Index := 0#32
  ![v13.toNat, 0, 0]
@[reducible] def k0_t2_loop (k0_t1 : Fin k0_t1_loop.trips) : Scf.Loop 32 :=
  let c0_i32_5 : BitVec 32 := 0#32
  let c1_i32 : BitVec 32 := 1#32
  let arg8 : BitVec 32 := Scf.iv c0_i32_5 c1_i32 k0_t1
  let c1_i32_41 : BitVec 32 := 1#32
  let v136 : BitVec 32 := Scalar.addi arg8 c1_i32_41
  let c60_i32_42 : BitVec 32 := 60#32
  let v137 : BitVec 32 := Scalar.subi c60_i32_42 v136
  let c1_i32_44 : BitVec 32 := 1#32
  let v139 : BitVec 32 := Scalar.divsi v137 c1_i32_44
  let v140 : BitVec 32 := Scalar.muli v139 c1_i32_44
  let v141 : BitVec 32 := Scalar.addi v136 v140
  let c1_i32_45 : BitVec 32 := 1#32
  ⟨v136, v141, c1_i32_45⟩
def k0_off3 (k0_t1 : Fin k0_t1_loop.trips) (arg9 : BitVec 32) (k0_t2 : Fin (k0_t2_loop k0_t1).trips) : Fin 3 → Nat :=
  let c0_i32_5 : BitVec 32 := 0#32
  let c1_i32 : BitVec 32 := 1#32
  let arg8 : BitVec 32 := Scf.iv c0_i32_5 c1_i32 k0_t1
  let c1_i32_41 : BitVec 32 := 1#32
  let v136 : BitVec 32 := Scalar.addi arg8 c1_i32_41
  let c1_i32_45 : BitVec 32 := 1#32
  let arg10 : BitVec 32 := Scf.iv v136 c1_i32_45 k0_t2
  let v147 : BitVec 32 := Scalar.addi arg9 arg10
  let v148 : BitVec 32 := Scalar.subi v147 arg8
  let c1_i32_49 : BitVec 32 := 1#32
  let v149 : BitVec 32 := Scalar.subi v148 c1_i32_49
  let v150 : Index := Scalar.indexCast v149
  let c0_50 : Index := 0#32
  let c0_51 : Index := 0#32
  ![v150.toNat, 0, 0]

def k0_mult2 (k0_t1 : Fin k0_t1_loop.trips) (k0_t2 : Fin (k0_t2_loop k0_t1).trips) : BitVec 32 :=
  let c0_i32_5 : BitVec 32 := 0#32
  let c1_i32 : BitVec 32 := 1#32
  let arg8 : BitVec 32 := Scf.iv c0_i32_5 c1_i32 k0_t1
  let c1_i32_41 : BitVec 32 := 1#32
  let v136 : BitVec 32 := Scalar.addi arg8 c1_i32_41
  let c1_i32_45 : BitVec 32 := 1#32
  let arg10 : BitVec 32 := Scf.iv v136 c1_i32_45 k0_t2
  let c128_i32_53 : BitVec 32 := 128#32
  let v154 : BitVec 32 := Scalar.muli arg10 c128_i32_53
  v154
def k0_off4 (k0_t1 : Fin k0_t1_loop.trips) (k0_t2 : Fin (k0_t2_loop k0_t1).trips) : Fin 2 → Nat :=
  let c0_54 : Index := 0#32
  let c0_i32_5 : BitVec 32 := 0#32
  let c1_i32 : BitVec 32 := 1#32
  let arg8 : BitVec 32 := Scf.iv c0_i32_5 c1_i32 k0_t1
  let c1_i32_41 : BitVec 32 := 1#32
  let v136 : BitVec 32 := Scalar.addi arg8 c1_i32_41
  let c1_i32_45 : BitVec 32 := 1#32
  let arg10 : BitVec 32 := Scf.iv v136 c1_i32_45 k0_t2
  let c128_i32_53 : BitVec 32 := 128#32
  let v154 : BitVec 32 := Scalar.muli arg10 c128_i32_53
  let v155 : BitVec 32 := v154
  let v156 : Index := Scalar.indexCast v155
  ![0, v156.toNat]
def k0_off5 (k0_t1 : Fin k0_t1_loop.trips) (arg9 : BitVec 32) (k0_t2 : Fin (k0_t2_loop k0_t1).trips) : Fin 1 → Nat :=
  let c0_i32_5 : BitVec 32 := 0#32
  let c1_i32 : BitVec 32 := 1#32
  let arg8 : BitVec 32 := Scf.iv c0_i32_5 c1_i32 k0_t1
  let c1_i32_41 : BitVec 32 := 1#32
  let v136 : BitVec 32 := Scalar.addi arg8 c1_i32_41
  let c1_i32_45 : BitVec 32 := 1#32
  let arg10 : BitVec 32 := Scf.iv v136 c1_i32_45 k0_t2
  let v147 : BitVec 32 := Scalar.addi arg9 arg10
  let v148 : BitVec 32 := Scalar.subi v147 arg8
  let c1_i32_49 : BitVec 32 := 1#32
  let v149 : BitVec 32 := Scalar.subi v148 c1_i32_49
  let v159 : Index := Scalar.indexCast v149
  ![v159.toNat]
@[reducible] def k0_t3_loop (k0_t1 : Fin k0_t1_loop.trips) : Scf.Loop 32 :=
  let c0_i32_5 : BitVec 32 := 0#32
  let c1_i32 : BitVec 32 := 1#32
  let arg8 : BitVec 32 := Scf.iv c0_i32_5 c1_i32 k0_t1
  let c1_i32_41 : BitVec 32 := 1#32
  let v136 : BitVec 32 := Scalar.addi arg8 c1_i32_41
  let c60_i32_42 : BitVec 32 := 60#32
  let v137 : BitVec 32 := Scalar.subi c60_i32_42 v136
  let c1_i32_44 : BitVec 32 := 1#32
  let v139 : BitVec 32 := Scalar.divsi v137 c1_i32_44
  let v140 : BitVec 32 := Scalar.muli v139 c1_i32_44
  let v141 : BitVec 32 := Scalar.addi v136 v140
  let v138 : BitVec 32 := Scalar.addi v136 v137
  let c1_i32_46 : BitVec 32 := 1#32
  ⟨v141, v138, c1_i32_46⟩
def k0_off6 (k0_t1 : Fin k0_t1_loop.trips) (arg9 : BitVec 32) (k0_t3 : Fin (k0_t3_loop k0_t1).trips) : Fin 3 → Nat :=
  let c0_i32_5 : BitVec 32 := 0#32
  let c1_i32 : BitVec 32 := 1#32
  let arg8 : BitVec 32 := Scf.iv c0_i32_5 c1_i32 k0_t1
  let c1_i32_41 : BitVec 32 := 1#32
  let v136 : BitVec 32 := Scalar.addi arg8 c1_i32_41
  let c60_i32_42 : BitVec 32 := 60#32
  let v137 : BitVec 32 := Scalar.subi c60_i32_42 v136
  let c1_i32_44 : BitVec 32 := 1#32
  let v139 : BitVec 32 := Scalar.divsi v137 c1_i32_44
  let v140 : BitVec 32 := Scalar.muli v139 c1_i32_44
  let v141 : BitVec 32 := Scalar.addi v136 v140
  let c1_i32_46 : BitVec 32 := 1#32
  let arg10 : BitVec 32 := Scf.iv v141 c1_i32_46 k0_t3
  let v147 : BitVec 32 := Scalar.addi arg9 arg10
  let v148 : BitVec 32 := Scalar.subi v147 arg8
  let c1_i32_49 : BitVec 32 := 1#32
  let v149 : BitVec 32 := Scalar.subi v148 c1_i32_49
  let v150 : Index := Scalar.indexCast v149
  let c0_50 : Index := 0#32
  let c0_51 : Index := 0#32
  ![v150.toNat, 0, 0]
def k0_mult3 (k0_t1 : Fin k0_t1_loop.trips) (k0_t3 : Fin (k0_t3_loop k0_t1).trips) : BitVec 32 :=
  let c0_i32_5 : BitVec 32 := 0#32
  let c1_i32 : BitVec 32 := 1#32
  let arg8 : BitVec 32 := Scf.iv c0_i32_5 c1_i32 k0_t1
  let c1_i32_41 : BitVec 32 := 1#32
  let v136 : BitVec 32 := Scalar.addi arg8 c1_i32_41
  let c60_i32_42 : BitVec 32 := 60#32
  let v137 : BitVec 32 := Scalar.subi c60_i32_42 v136
  let c1_i32_44 : BitVec 32 := 1#32
  let v139 : BitVec 32 := Scalar.divsi v137 c1_i32_44
  let v140 : BitVec 32 := Scalar.muli v139 c1_i32_44
  let v141 : BitVec 32 := Scalar.addi v136 v140
  let c1_i32_46 : BitVec 32 := 1#32
  let arg10 : BitVec 32 := Scf.iv v141 c1_i32_46 k0_t3
  let c128_i32_53 : BitVec 32 := 128#32
  let v154 : BitVec 32 := Scalar.muli arg10 c128_i32_53
  v154
def k0_off7 (k0_t1 : Fin k0_t1_loop.trips) (k0_t3 : Fin (k0_t3_loop k0_t1).trips) : Fin 2 → Nat :=
  let c0_54 : Index := 0#32
  let c0_i32_5 : BitVec 32 := 0#32
  let c1_i32 : BitVec 32 := 1#32
  let arg8 : BitVec 32 := Scf.iv c0_i32_5 c1_i32 k0_t1
  let c1_i32_41 : BitVec 32 := 1#32
  let v136 : BitVec 32 := Scalar.addi arg8 c1_i32_41
  let c60_i32_42 : BitVec 32 := 60#32
  let v137 : BitVec 32 := Scalar.subi c60_i32_42 v136
  let c1_i32_44 : BitVec 32 := 1#32
  let v139 : BitVec 32 := Scalar.divsi v137 c1_i32_44
  let v140 : BitVec 32 := Scalar.muli v139 c1_i32_44
  let v141 : BitVec 32 := Scalar.addi v136 v140
  let c1_i32_46 : BitVec 32 := 1#32
  let arg10 : BitVec 32 := Scf.iv v141 c1_i32_46 k0_t3
  let c128_i32_53 : BitVec 32 := 128#32
  let v154 : BitVec 32 := Scalar.muli arg10 c128_i32_53
  let v155 : BitVec 32 := v154
  let v156 : Index := Scalar.indexCast v155
  ![0, v156.toNat]
def k0_off8 (k0_t1 : Fin k0_t1_loop.trips) (arg9 : BitVec 32) (k0_t3 : Fin (k0_t3_loop k0_t1).trips) : Fin 1 → Nat :=
  let c0_i32_5 : BitVec 32 := 0#32
  let c1_i32 : BitVec 32 := 1#32
  let arg8 : BitVec 32 := Scf.iv c0_i32_5 c1_i32 k0_t1
  let c1_i32_41 : BitVec 32 := 1#32
  let v136 : BitVec 32 := Scalar.addi arg8 c1_i32_41
  let c60_i32_42 : BitVec 32 := 60#32
  let v137 : BitVec 32 := Scalar.subi c60_i32_42 v136
  let c1_i32_44 : BitVec 32 := 1#32
  let v139 : BitVec 32 := Scalar.divsi v137 c1_i32_44
  let v140 : BitVec 32 := Scalar.muli v139 c1_i32_44
  let v141 : BitVec 32 := Scalar.addi v136 v140
  let c1_i32_46 : BitVec 32 := 1#32
  let arg10 : BitVec 32 := Scf.iv v141 c1_i32_46 k0_t3
  let v147 : BitVec 32 := Scalar.addi arg9 arg10
  let v148 : BitVec 32 := Scalar.subi v147 arg8
  let c1_i32_49 : BitVec 32 := 1#32
  let v149 : BitVec 32 := Scalar.subi v148 c1_i32_49
  let v159 : Index := Scalar.indexCast v149
  ![v159.toNat]

def k0_chk1 (k0_t1 : Fin k0_t1_loop.trips) (arg9 : BitVec 32) : Prop :=
  (∀ k0_t2 : Fin (k0_t2_loop k0_t1).trips, ∀ a, (k0_off3 k0_t1 arg9 k0_t2) a + S1x128x128.size a ≤ S1770x128x128.size a) ∧
  (∀ k0_t2 : Fin (k0_t2_loop k0_t1).trips, ∀ a, (k0_off5 k0_t1 arg9 k0_t2) a + S1.size a ≤ S1770.size a) ∧
  (∀ k0_t3 : Fin (k0_t3_loop k0_t1).trips, ∀ a, (k0_off6 k0_t1 arg9 k0_t3) a + S1x128x128.size a ≤ S1770x128x128.size a) ∧
  (∀ k0_t3 : Fin (k0_t3_loop k0_t1).trips, ∀ a, (k0_off8 k0_t1 arg9 k0_t3) a + S1.size a ≤ S1770.size a)
theorem k0_off3_inb : ∀ (k0_t1 : Fin k0_t1_loop.trips) (arg9 : BitVec 32) (k0_hw1 : k0_chk1 k0_t1 arg9) (k0_t2 : Fin (k0_t2_loop k0_t1).trips), ∀ a, (k0_off3 k0_t1 arg9 k0_t2) a + S1x128x128.size a ≤ S1770x128x128.size a := fun k0_t1 arg9 k0_hw1 k0_t2 => k0_hw1.1 k0_t2
theorem k0_off5_inb : ∀ (k0_t1 : Fin k0_t1_loop.trips) (arg9 : BitVec 32) (k0_hw1 : k0_chk1 k0_t1 arg9) (k0_t2 : Fin (k0_t2_loop k0_t1).trips), ∀ a, (k0_off5 k0_t1 arg9 k0_t2) a + S1.size a ≤ S1770.size a := fun k0_t1 arg9 k0_hw1 k0_t2 => k0_hw1.2.1 k0_t2
theorem k0_off6_inb : ∀ (k0_t1 : Fin k0_t1_loop.trips) (arg9 : BitVec 32) (k0_hw1 : k0_chk1 k0_t1 arg9) (k0_t3 : Fin (k0_t3_loop k0_t1).trips), ∀ a, (k0_off6 k0_t1 arg9 k0_t3) a + S1x128x128.size a ≤ S1770x128x128.size a := fun k0_t1 arg9 k0_hw1 k0_t3 => k0_hw1.2.2.1 k0_t3
theorem k0_off8_inb : ∀ (k0_t1 : Fin k0_t1_loop.trips) (arg9 : BitVec 32) (k0_hw1 : k0_chk1 k0_t1 arg9) (k0_t3 : Fin (k0_t3_loop k0_t1).trips), ∀ a, (k0_off8 k0_t1 arg9 k0_t3) a + S1.size a ≤ S1770.size a := fun k0_t1 arg9 k0_hw1 k0_t3 => k0_hw1.2.2.2 k0_t3

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1770 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x7680 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1770x128x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S60x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x7680 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x7680 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x5120x7680 : Shape := ⟨3, ![1, 5120, 7680]⟩
abbrev S1x1770x128x128 : Shape := ⟨4, ![1, 1770, 128, 128]⟩
abbrev S1x1770 : Shape := ⟨2, ![1, 1770]⟩
abbrev S1x60x128x128 : Shape := ⟨4, ![1, 60, 128, 128]⟩
abbrev S5120x7680 : Shape := ⟨2, ![5120, 7680]⟩
abbrev S1770x128x128 : Shape := ⟨3, ![1770, 128, 128]⟩
abbrev S60x128x128 : Shape := ⟨3, ![60, 128, 128]⟩
abbrev S5120x128 : Shape := ⟨2, ![5120, 128]⟩
abbrev S1x128x128 : Shape := ⟨3, ![1, 128, 128]⟩
abbrev S128x128 : Shape := ⟨2, ![128, 128]⟩
abbrev S5120 : Shape := ⟨1, ![5120]⟩
abbrev S5120x1 : Shape := ⟨2, ![5120, 1]⟩
abbrev S1x1 : Shape := ⟨2, ![1, 1]⟩

abbrev nBuf : Space → Nat
  | .hbm => 10
  | .vmem => 6
  | .smem => 1
  | _ => 0

abbrev bufTy : (tb : Table) → Fin (tcTables nBuf tb) → BufTy
  | .hbm, ⟨0, _⟩ => ⟨S1x5120x7680, .f32⟩
  | .hbm, ⟨1, _⟩ => ⟨S1x1770x128x128, .fp8e4m3⟩
  | .hbm, ⟨2, _⟩ => ⟨S1x1770, .f32⟩
  | .hbm, ⟨3, _⟩ => ⟨S1x60x128x128, .f32⟩
  | .hbm, ⟨4, _⟩ => ⟨S5120x7680, .f32⟩
  | .hbm, ⟨5, _⟩ => ⟨S1770x128x128, .fp8e4m3⟩
  | .hbm, ⟨6, _⟩ => ⟨S60x128x128, .f32⟩
  | .hbm, ⟨7, _⟩ => ⟨S5120x7680, .f32⟩
  | .hbm, ⟨8, _⟩ => ⟨S5120x7680, .fp8e4m3⟩
  | .hbm, ⟨9, _⟩ => ⟨S5120x128, .f32⟩
  | .local _ .vmem, ⟨0, _⟩ => ⟨S5120x7680, .f32⟩
  | .local _ .vmem, ⟨1, _⟩ => ⟨S1770x128x128, .fp8e4m3⟩
  | .local _ .vmem, ⟨2, _⟩ => ⟨S60x128x128, .f32⟩
  | .local _ .vmem, ⟨3, _⟩ => ⟨S5120x7680, .f32⟩
  | .local _ .vmem, ⟨4, _⟩ => ⟨S5120x7680, .fp8e4m3⟩
  | .local _ .vmem, ⟨5, _⟩ => ⟨S5120x128, .f32⟩
  | .local _ .smem, ⟨0, _⟩ => ⟨S1x1770, .f32⟩
  | _, _ => ⟨S1x5120x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c60_i32 : BitVec 32 := 60#32
  let v3 : BitVec 32 := Scalar.addi c0_i32 c60_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  v4
def k0_off1 (k0_t1 : Fin k0_t1_loop.trips) : Fin 2 → Nat :=
  let c0_2 : Index := 0#32
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v6 : Index := Scalar.indexCast v5
  ![0, v6.toNat]
@[reducible] def k0_t2_loop (k0_t1 : Fin k0_t1_loop.trips) : Scf.Loop 32 :=
  let c0_i32_3 : BitVec 32 := 0#32
  let c0_i32 : BitVec 32 := 0#32
  let c1_i32 : BitVec 32 := 1#32
  let arg7 : BitVec 32 := Scf.iv c0_i32 c1_i32 k0_t1
  let v9 : BitVec 32 := Scalar.subi arg7 c0_i32_3
  let c1_i32_4 : BitVec 32 := 1#32
  let v11 : BitVec 32 := Scalar.divsi v9 c1_i32_4
  let v12 : BitVec 32 := Scalar.muli v11 c1_i32_4
  let v13 : BitVec 32 := Scalar.addi c0_i32_3 v12
  let c1_i32_5 : BitVec 32 := 1#32
  ⟨c0_i32_3, v13, c1_i32_5⟩
def k0_mult2 (k0_t1 : Fin k0_t1_loop.trips) (k0_t2 : Fin (k0_t2_loop k0_t1).trips) : BitVec 32 :=
  let c0_i32_3 : BitVec 32 := 0#32
  let c1_i32_5 : BitVec 32 := 1#32
  let arg8 : BitVec 32 := Scf.iv c0_i32_3 c1_i32_5 k0_t2
  let c128_i32_26 : BitVec 32 := 128#32
  let v61 : BitVec 32 := Scalar.muli arg8 c128_i32_26
  v61
def k0_off2 (k0_t1 : Fin k0_t1_loop.trips) (k0_t2 : Fin (k0_t2_loop k0_t1).trips) : Fin 2 → Nat :=
  let c0_36 : Index := 0#32
  let c0_i32_3 : BitVec 32 := 0#32
  let c1_i32_5 : BitVec 32 := 1#32
  let arg8 : BitVec 32 := Scf.iv c0_i32_3 c1_i32_5 k0_t2
  let c128_i32_26 : BitVec 32 := 128#32
  let v61 : BitVec 32 := Scalar.muli arg8 c128_i32_26
  let v62 : BitVec 32 := v61
  let v87 : Index := Scalar.indexCast v62
  ![0, v87.toNat]
def k0_off3 (k0_t1 : Fin k0_t1_loop.trips) (k0_t2 : Fin (k0_t2_loop k0_t1).trips) : Fin 3 → Nat :=
  let c0_i32_3 : BitVec 32 := 0#32
  let c1_i32_5 : BitVec 32 := 1#32
  let arg8 : BitVec 32 := Scf.iv c0_i32_3 c1_i32_5 k0_t2
  let c60_i32_27 : BitVec 32 := 60#32
  let v63 : BitVec 32 := Scalar.muli arg8 c60_i32_27
  let c1_i32_28 : BitVec 32 := 1#32
  let v64 : BitVec 32 := Scalar.addi arg8 c1_i32_28
  let v65 : BitVec 32 := Scalar.muli arg8 v64
  let c0_i32_29 : BitVec 32 := 0#32
  let v67 : BitVec 1 := Scalar.cmpi .sgt v65 c0_i32_29
  let v68 : BitVec 32 := Scalar.extui v67
  let c0_i32_30 : BitVec 32 := 0#32
  let v69 : BitVec 1 := Scalar.cmpi .slt v65 c0_i32_30
  let v70 : BitVec 32 := Scalar.extui v69
  let v71 : BitVec 32 := Scalar.subi v68 v70
  let c2_i32 : BitVec 32 := 2#32
  let c0_i32_31 : BitVec 32 := 0#32
  let v72 : BitVec 1 := Scalar.cmpi .sgt c2_i32 c0_i32_31
  let v73 : BitVec 32 := Scalar.extui v72
  let c0_i32_32 : BitVec 32 := 0#32
  let v74 : BitVec 1 := Scalar.cmpi .slt c2_i32 c0_i32_32
  let v75 : BitVec 32 := Scalar.extui v74
  let v76 : BitVec 32 := Scalar.subi v73 v75
  let v77 : BitVec 1 := Scalar.cmpi .ne v71 v76
  let v78 : BitVec 32 := Scalar.remsi v65 c2_i32
  let c0_i32_33 : BitVec 32 := 0#32
  let v79 : BitVec 1 := Scalar.cmpi .ne v78 c0_i32_33
  let v80 : BitVec 1 := Scalar.andi v77 v79
  let v66 : BitVec 32 := Scalar.divsi v65 c2_i32
  let c1_i32_34 : BitVec 32 := 1#32
  let v81 : BitVec 32 := Scalar.subi v66 c1_i32_34
  let v82 : BitVec 32 := Scalar.select v80 v81 v66
  let v83 : BitVec 32 := Scalar.subi v63 v82
  let c0_i32 : BitVec 32 := 0#32
  let c1_i32 : BitVec 32 := 1#32
  let arg7 : BitVec 32 := Scf.iv c0_i32 c1_i32 k0_t1
  let c1_i32_35 : BitVec 32 := 1#32
  let v84 : BitVec 32 := Scalar.subi arg7 c1_i32_35
  let v85 : BitVec 32 := Scalar.subi v84 arg8
  let v86 : BitVec 32 := Scalar.addi v83 v85
  let v90 : Index := Scalar.indexCast v86
  let c0_37 : Index := 0#32
  let c0_38 : Index := 0#32
  ![v90.toNat, 0, 0]
def k0_off4 (k0_t1 : Fin k0_t1_loop.trips) (k0_t2 : Fin (k0_t2_loop k0_t1).trips) : Fin 2 → Nat :=
  let c0_44 : Index := 0#32
  let c0_i32_3 : BitVec 32 := 0#32
  let c1_i32_5 : BitVec 32 := 1#32
  let arg8 : BitVec 32 := Scf.iv c0_i32_3 c1_i32_5 k0_t2
  let c60_i32_27 : BitVec 32 := 60#32
  let v63 : BitVec 32 := Scalar.muli arg8 c60_i32_27
  let c1_i32_28 : BitVec 32 := 1#32
  let v64 : BitVec 32 := Scalar.addi arg8 c1_i32_28
  let v65 : BitVec 32 := Scalar.muli arg8 v64
  let c0_i32_29 : BitVec 32 := 0#32
  let v67 : BitVec 1 := Scalar.cmpi .sgt v65 c0_i32_29
  let v68 : BitVec 32 := Scalar.extui v67
  let c0_i32_30 : BitVec 32 := 0#32
  let v69 : BitVec 1 := Scalar.cmpi .slt v65 c0_i32_30
  let v70 : BitVec 32 := Scalar.extui v69
  let v71 : BitVec 32 := Scalar.subi v68 v70
  let c2_i32 : BitVec 32 := 2#32
  let c0_i32_31 : BitVec 32 := 0#32
  let v72 : BitVec 1 := Scalar.cmpi .sgt c2_i32 c0_i32_31
  let v73 : BitVec 32 := Scalar.extui v72
  let c0_i32_32 : BitVec 32 := 0#32
  let v74 : BitVec 1 := Scalar.cmpi .slt c2_i32 c0_i32_32
  let v75 : BitVec 32 := Scalar.extui v74
  let v76 : BitVec 32 := Scalar.subi v73 v75
  let v77 : BitVec 1 := Scalar.cmpi .ne v71 v76
  let v78 : BitVec 32 := Scalar.remsi v65 c2_i32
  let c0_i32_33 : BitVec 32 := 0#32
  let v79 : BitVec 1 := Scalar.cmpi .ne v78 c0_i32_33
  let v80 : BitVec 1 := Scalar.andi v77 v79
  let v66 : BitVec 32 := Scalar.divsi v65 c2_i32
  let c1_i32_34 : BitVec 32 := 1#32
  let v81 : BitVec 32 := Scalar.subi v66 c1_i32_34
  let v82 : BitVec 32 := Scalar.select v80 v81 v66
  let v83 : BitVec 32 := Scalar.subi v63 v82
  let c0_i32 : BitVec 32 := 0#32
  let c1_i32 : BitVec 32 := 1#32
  let arg7 : BitVec 32 := Scf.iv c0_i32 c1_i32 k0_t1
  let c1_i32_35 : BitVec 32 := 1#32
  let v84 : BitVec 32 := Scalar.subi arg7 c1_i32_35
  let v85 : BitVec 32 := Scalar.subi v84 arg8
  let v86 : BitVec 32 := Scalar.addi v83 v85
  let v102 : Index := Scalar.indexCast v86
  ![0, v102.toNat]
@[reducible] def k0_t3_loop (k0_t1 : Fin k0_t1_loop.trips) : Scf.Loop 32 :=
  let c0_i32_3 : BitVec 32 := 0#32
  let c0_i32 : BitVec 32 := 0#32
  let c1_i32 : BitVec 32 := 1#32
  let arg7 : BitVec 32 := Scf.iv c0_i32 c1_i32 k0_t1
  let v9 : BitVec 32 := Scalar.subi arg7 c0_i32_3
  let c1_i32_4 : BitVec 32 := 1#32
  let v11 : BitVec 32 := Scalar.divsi v9 c1_i32_4
  let v12 : BitVec 32 := Scalar.muli v11 c1_i32_4
  let v13 : BitVec 32 := Scalar.addi c0_i32_3 v12
  let v10 : BitVec 32 := Scalar.addi c0_i32_3 v9
  let c1_i32_6 : BitVec 32 := 1#32
  ⟨v13, v10, c1_i32_6⟩
def k0_mult3 (k0_t1 : Fin k0_t1_loop.trips) (k0_t3 : Fin (k0_t3_loop k0_t1).trips) : BitVec 32 :=
  let c0_i32_3 : BitVec 32 := 0#32
  let c0_i32 : BitVec 32 := 0#32
  let c1_i32 : BitVec 32 := 1#32
  let arg7 : BitVec 32 := Scf.iv c0_i32 c1_i32 k0_t1
  let v9 : BitVec 32 := Scalar.subi arg7 c0_i32_3
  let c1_i32_4 : BitVec 32 := 1#32
  let v11 : BitVec 32 := Scalar.divsi v9 c1_i32_4
  let v12 : BitVec 32 := Scalar.muli v11 c1_i32_4
  let v13 : BitVec 32 := Scalar.addi c0_i32_3 v12
  let c1_i32_6 : BitVec 32 := 1#32
  let arg8 : BitVec 32 := Scf.iv v13 c1_i32_6 k0_t3
  let c128_i32_26 : BitVec 32 := 128#32
  let v61 : BitVec 32 := Scalar.muli arg8 c128_i32_26
  v61
def k0_off5 (k0_t1 : Fin k0_t1_loop.trips) (k0_t3 : Fin (k0_t3_loop k0_t1).trips) : Fin 2 → Nat :=
  let c0_36 : Index := 0#32
  let c0_i32_3 : BitVec 32 := 0#32
  let c0_i32 : BitVec 32 := 0#32
  let c1_i32 : BitVec 32 := 1#32
  let arg7 : BitVec 32 := Scf.iv c0_i32 c1_i32 k0_t1
  let v9 : BitVec 32 := Scalar.subi arg7 c0_i32_3
  let c1_i32_4 : BitVec 32 := 1#32
  let v11 : BitVec 32 := Scalar.divsi v9 c1_i32_4
  let v12 : BitVec 32 := Scalar.muli v11 c1_i32_4
  let v13 : BitVec 32 := Scalar.addi c0_i32_3 v12
  let c1_i32_6 : BitVec 32 := 1#32
  let arg8 : BitVec 32 := Scf.iv v13 c1_i32_6 k0_t3
  let c128_i32_26 : BitVec 32 := 128#32
  let v61 : BitVec 32 := Scalar.muli arg8 c128_i32_26
  let v62 : BitVec 32 := v61
  let v87 : Index := Scalar.indexCast v62
  ![0, v87.toNat]
def k0_off6 (k0_t1 : Fin k0_t1_loop.trips) (k0_t3 : Fin (k0_t3_loop k0_t1).trips) : Fin 3 → Nat :=
  let c0_i32_3 : BitVec 32 := 0#32
  let c0_i32 : BitVec 32 := 0#32
  let c1_i32 : BitVec 32 := 1#32
  let arg7 : BitVec 32 := Scf.iv c0_i32 c1_i32 k0_t1
  let v9 : BitVec 32 := Scalar.subi arg7 c0_i32_3
  let c1_i32_4 : BitVec 32 := 1#32
  let v11 : BitVec 32 := Scalar.divsi v9 c1_i32_4
  let v12 : BitVec 32 := Scalar.muli v11 c1_i32_4
  let v13 : BitVec 32 := Scalar.addi c0_i32_3 v12
  let c1_i32_6 : BitVec 32 := 1#32
  let arg8 : BitVec 32 := Scf.iv v13 c1_i32_6 k0_t3
  let c60_i32_27 : BitVec 32 := 60#32
  let v63 : BitVec 32 := Scalar.muli arg8 c60_i32_27
  let c1_i32_28 : BitVec 32 := 1#32
  let v64 : BitVec 32 := Scalar.addi arg8 c1_i32_28
  let v65 : BitVec 32 := Scalar.muli arg8 v64
  let c0_i32_29 : BitVec 32 := 0#32
  let v67 : BitVec 1 := Scalar.cmpi .sgt v65 c0_i32_29
  let v68 : BitVec 32 := Scalar.extui v67
  let c0_i32_30 : BitVec 32 := 0#32
  let v69 : BitVec 1 := Scalar.cmpi .slt v65 c0_i32_30
  let v70 : BitVec 32 := Scalar.extui v69
  let v71 : BitVec 32 := Scalar.subi v68 v70
  let c2_i32 : BitVec 32 := 2#32
  let c0_i32_31 : BitVec 32 := 0#32
  let v72 : BitVec 1 := Scalar.cmpi .sgt c2_i32 c0_i32_31
  let v73 : BitVec 32 := Scalar.extui v72
  let c0_i32_32 : BitVec 32 := 0#32
  let v74 : BitVec 1 := Scalar.cmpi .slt c2_i32 c0_i32_32
  let v75 : BitVec 32 := Scalar.extui v74
  let v76 : BitVec 32 := Scalar.subi v73 v75
  let v77 : BitVec 1 := Scalar.cmpi .ne v71 v76
  let v78 : BitVec 32 := Scalar.remsi v65 c2_i32
  let c0_i32_33 : BitVec 32 := 0#32
  let v79 : BitVec 1 := Scalar.cmpi .ne v78 c0_i32_33
  let v80 : BitVec 1 := Scalar.andi v77 v79
  let v66 : BitVec 32 := Scalar.divsi v65 c2_i32
  let c1_i32_34 : BitVec 32 := 1#32
  let v81 : BitVec 32 := Scalar.subi v66 c1_i32_34
  let v82 : BitVec 32 := Scalar.select v80 v81 v66
  let v83 : BitVec 32 := Scalar.subi v63 v82
  let c1_i32_35 : BitVec 32 := 1#32
  let v84 : BitVec 32 := Scalar.subi arg7 c1_i32_35
  let v85 : BitVec 32 := Scalar.subi v84 arg8
  let v86 : BitVec 32 := Scalar.addi v83 v85
  let v90 : Index := Scalar.indexCast v86
  let c0_37 : Index := 0#32
  let c0_38 : Index := 0#32
  ![v90.toNat, 0, 0]
def k0_off7 (k0_t1 : Fin k0_t1_loop.trips) (k0_t3 : Fin (k0_t3_loop k0_t1).trips) : Fin 2 → Nat :=
  let c0_44 : Index := 0#32
  let c0_i32_3 : BitVec 32 := 0#32
  let c0_i32 : BitVec 32 := 0#32
  let c1_i32 : BitVec 32 := 1#32
  let arg7 : BitVec 32 := Scf.iv c0_i32 c1_i32 k0_t1
  let v9 : BitVec 32 := Scalar.subi arg7 c0_i32_3
  let c1_i32_4 : BitVec 32 := 1#32
  let v11 : BitVec 32 := Scalar.divsi v9 c1_i32_4
  let v12 : BitVec 32 := Scalar.muli v11 c1_i32_4
  let v13 : BitVec 32 := Scalar.addi c0_i32_3 v12
  let c1_i32_6 : BitVec 32 := 1#32
  let arg8 : BitVec 32 := Scf.iv v13 c1_i32_6 k0_t3
  let c60_i32_27 : BitVec 32 := 60#32
  let v63 : BitVec 32 := Scalar.muli arg8 c60_i32_27
  let c1_i32_28 : BitVec 32 := 1#32
  let v64 : BitVec 32 := Scalar.addi arg8 c1_i32_28
  let v65 : BitVec 32 := Scalar.muli arg8 v64
  let c0_i32_29 : BitVec 32 := 0#32
  let v67 : BitVec 1 := Scalar.cmpi .sgt v65 c0_i32_29
  let v68 : BitVec 32 := Scalar.extui v67
  let c0_i32_30 : BitVec 32 := 0#32
  let v69 : BitVec 1 := Scalar.cmpi .slt v65 c0_i32_30
  let v70 : BitVec 32 := Scalar.extui v69
  let v71 : BitVec 32 := Scalar.subi v68 v70
  let c2_i32 : BitVec 32 := 2#32
  let c0_i32_31 : BitVec 32 := 0#32
  let v72 : BitVec 1 := Scalar.cmpi .sgt c2_i32 c0_i32_31
  let v73 : BitVec 32 := Scalar.extui v72
  let c0_i32_32 : BitVec 32 := 0#32
  let v74 : BitVec 1 := Scalar.cmpi .slt c2_i32 c0_i32_32
  let v75 : BitVec 32 := Scalar.extui v74
  let v76 : BitVec 32 := Scalar.subi v73 v75
  let v77 : BitVec 1 := Scalar.cmpi .ne v71 v76
  let v78 : BitVec 32 := Scalar.remsi v65 c2_i32
  let c0_i32_33 : BitVec 32 := 0#32
  let v79 : BitVec 1 := Scalar.cmpi .ne v78 c0_i32_33
  let v80 : BitVec 1 := Scalar.andi v77 v79
  let v66 : BitVec 32 := Scalar.divsi v65 c2_i32
  let c1_i32_34 : BitVec 32 := 1#32
  let v81 : BitVec 32 := Scalar.subi v66 c1_i32_34
  let v82 : BitVec 32 := Scalar.select v80 v81 v66
  let v83 : BitVec 32 := Scalar.subi v63 v82
  let c1_i32_35 : BitVec 32 := 1#32
  let v84 : BitVec 32 := Scalar.subi arg7 c1_i32_35
  let v85 : BitVec 32 := Scalar.subi v84 arg8
  let v86 : BitVec 32 := Scalar.addi v83 v85
  let v102 : Index := Scalar.indexCast v86
  ![0, v102.toNat]
def k0_off8 (k0_t1 : Fin k0_t1_loop.trips) : Fin 3 → Nat :=
  let c0_i32 : BitVec 32 := 0#32
  let c1_i32 : BitVec 32 := 1#32
  let arg7 : BitVec 32 := Scf.iv c0_i32 c1_i32 k0_t1
  let v16 : Index := Scalar.indexCast arg7
  let c0_7 : Index := 0#32
  let c0_8 : Index := 0#32
  ![v16.toNat, 0, 0]
abbrev stage0_0 : Fin 1 → Memref sig .tc .vmem S5120x7680 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1770x128x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1770 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S60x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x7680 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120x7680 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5120x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelLoop.lean ====
/-
  The outer loop of the forward substitution (hand-written): one trip of `k0_t1_loop` at a symbolic trip, run once by
  `sl_exec` (the inner loop over the later panels by its generated invariant), the loop's invariant, and the kernel
  body's triple. Generic in the float arithmetic.
-/
module

public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev 𝒱₀ : Variants := Variants.none

local notation "𝕄" => MT nD τ sig Unit (Elt F) ℕ (UR sig nD τ) ℕ

/-- The word the outer loop carries before trip `k`: the number of the first tile of block column `k`, the block
    columns below the diagonal being stored one after the other. -/
def offw (k : ℕ) : BitVec 32 := BitVec.ofNat 32 (k * 60 - k * (k + 1) / 2)

theorem offw_zero : offw 0 = 0#32 := rfl

/-- The tiles the trip reads lie inside the array of tiles. -/
theorem chk_offw : ∀ k : Fin k0_t1_loop.trips, k0_chk1 k (offw k.val) := by decide +kernel

/-- The trip hands on the next trip's word. -/
theorem offw_succ : ∀ k : Fin k0_t1_loop.trips,
    Scalar.subi (Scalar.subi (Scalar.addi (offw k.val) 60#32) 1#32) (Scf.iv 0#32 1#32 k) = offw (k.val + 1) := by
  decide +kernel

/-- One trip's resources: the scales, the tiles and the inverses it reads, the three results it writes. -/
abbrev Trip1 (c : Dev nD) (arg1 : Memref sig .tc .smem S1770 .f32) (arg3 : Memref sig .tc .vmem S1770x128x128 .fp8e4m3) (arg4 : Memref sig .tc .vmem S60x128x128 .f32) (arg5 : Memref sig .tc .vmem S128x7680 .f32) (arg6 : Memref sig .tc .vmem S128x7680 .fp8e4m3) (arg7 : Memref sig .tc .vmem S128x128 .f32)
    (X1 : BufTy.Contents (Elt F) arg1.view.ty) (X3 : BufTy.Contents (Elt F) arg3.view.ty) (X4 : BufTy.Contents (Elt F) arg4.view.ty)
    (f5 : BufTy.Contents (Elt F) arg5.view.ty) (f6 : BufTy.Contents (Elt F) arg6.view.ty) (f7 : BufTy.Contents (Elt F) arg7.view.ty) : sProp 𝕄 :=
  iprop((arg1.view.loc (c : Thread nD τ) ↦[arg1.view.set]{fullShare} X1) ∗ (arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7))

/-- ONE TRIP at a symbolic `k`: what it leaves in the three results, as functions of what it finds there. -/
@[irreducible] def trip1 (c : Dev nD) (i : grid0.Coords) (arg1 : Memref sig .tc .smem S1770 .f32) (harg1 : arg1.IsWhole) (arg2 : Memref sig .tc .vmem S128x7680 .f32) (harg2 : arg2.IsWhole) (arg3 : Memref sig .tc .vmem S1770x128x128 .fp8e4m3) (harg3 : arg3.IsWhole) (arg4 : Memref sig .tc .vmem S60x128x128 .f32) (harg4 : arg4.IsWhole) (arg5 : Memref sig .tc .vmem S128x7680 .f32) (harg5 : arg5.IsWhole) (arg6 : Memref sig .tc .vmem S128x7680 .fp8e4m3) (harg6 : arg6.IsWhole) (arg7 : Memref sig .tc .vmem S128x128 .f32) (harg7 : arg7.IsWhole) (v3 : IVec S128x128 32)
    (X1 : BufTy.Contents (Elt F) arg1.view.ty) (X3 : BufTy.Contents (Elt F) arg3.view.ty) (X4 : BufTy.Contents (Elt F) arg4.view.ty) (k : Fin k0_t1_loop.trips) :
    Σ' (N5 : BufTy.Contents (Elt F) arg5.view.ty → BufTy.Contents (Elt F) arg6.view.ty → BufTy.Contents (Elt F) arg7.view.ty → BufTy.Contents (Elt F) arg5.view.ty)
       (N6 : BufTy.Contents (Elt F) arg5.view.ty → BufTy.Contents (Elt F) arg6.view.ty → BufTy.Contents (Elt F) arg7.view.ty → BufTy.Contents (Elt F) arg6.view.ty),
      { N7 : BufTy.Contents (Elt F) arg5.view.ty → BufTy.Contents (Elt F) arg6.view.ty → BufTy.Contents (Elt F) arg7.view.ty → BufTy.Contents (Elt F) arg7.view.ty //
        ∀ (E : Set ℕ) (f5 : BufTy.Contents (Elt F) arg5.view.ty) (f6 : BufTy.Contents (Elt F) arg6.view.ty) (f7 : BufTy.Contents (Elt F) arg7.view.ty),
        Trip1 (F := F) c arg1 arg3 arg4 arg5 arg6 arg7 X1 X3 X4 f5 f6 f7
        ⊢ wp frame (wpE (defs₀ (F := F)) 𝒱₀ (c : Thread nD τ) none) E
            (k0_t1_body (F := F) i arg1 harg1 arg2 harg2 arg3 harg3 arg4 harg4 arg5 harg5 arg6 harg6 arg7 harg7 v3 k (offw k.val))
            (fun yld => iprop(⌜yld = offw (k.val + 1)⌝
              ∗ Trip1 (F := F) c arg1 arg3 arg4 arg5 arg6 arg7 X1 X3 X4 (N5 f5 f6 f7) (N6 f5 f6 f7) (N7 f5 f6 f7))) } := by
  have hchk := chk_offw k
  have hsucc := offw_succ k
  refine ⟨?_, ?_, ?_, fun E f5 f6 f7 => ?run⟩
  case run =>
    unfold k0_t1_body
    iintro ⟨H1, H3, H4, H5, H6, H7⟩
    sl_exec
    sl_step
    sl_close

/-- What trip `k` leaves in the three results, from what it finds there. -/
@[irreducible] def stStep (c : Dev nD) (i : grid0.Coords) (arg1 : Memref sig .tc .smem S1770 .f32) (harg1 : arg1.IsWhole) (arg2 : Memref sig .tc .vmem S128x7680 .f32) (harg2 : arg2.IsWhole) (arg3 : Memref sig .tc .vmem S1770x128x128 .fp8e4m3) (harg3 : arg3.IsWhole) (arg4 : Memref sig .tc .vmem S60x128x128 .f32) (harg4 : arg4.IsWhole) (arg5 : Memref sig .tc .vmem S128x7680 .f32) (harg5 : arg5.IsWhole) (arg6 : Memref sig .tc .vmem S128x7680 .fp8e4m3) (harg6 : arg6.IsWhole) (arg7 : Memref sig .tc .vmem S128x128 .f32) (harg7 : arg7.IsWhole) (v3 : IVec S128x128 32)
    (X1 : BufTy.Contents (Elt F) arg1.view.ty) (X3 : BufTy.Contents (Elt F) arg3.view.ty) (X4 : BufTy.Contents (Elt F) arg4.view.ty) (k : ℕ) (s : BufTy.Contents (Elt F) arg5.view.ty × BufTy.Contents (Elt F) arg6.view.ty × BufTy.Contents (Elt F) arg7.view.ty) :
    BufTy.Contents (Elt F) arg5.view.ty × BufTy.Contents (Elt F) arg6.view.ty × BufTy.Contents (Elt F) arg7.view.ty :=
  if h : k < k0_t1_loop.trips then
    ((trip1 (F := F) c i arg1 harg1 arg2 harg2 arg3 harg3 arg4 harg4 arg5 harg5 arg6 harg6 arg7 harg7 v3 X1 X3 X4 ⟨k, h⟩).1 s.1 s.2.1 s.2.2, (trip1 (F := F) c i arg1 harg1 arg2 harg2 arg3 harg3 arg4 harg4 arg5 harg5 arg6 harg6 arg7 harg7 v3 X1 X3 X4 ⟨k, h⟩).2.1 s.1 s.2.1 s.2.2, (trip1 (F := F) c i arg1 harg1 arg2 harg2 arg3 harg3 arg4 harg4 arg5 harg5 arg6 harg6 arg7 harg7 v3 X1 X3 X4 ⟨k, h⟩).2.2.1 s.1 s.2.1 s.2.2)
  else s

/-- The three results before trip `k`, from their contents at loop entry. -/
def ST (c : Dev nD) (i : grid0.Coords) (arg1 : Memref sig .tc .smem S1770 .f32) (harg1 : arg1.IsWhole) (arg2 : Memref sig .tc .vmem S128x7680 .f32) (harg2 : arg2.IsWhole) (arg3 : Memref sig .tc .vmem S1770x128x128 .fp8e4m3) (harg3 : arg3.IsWhole) (arg4 : Memref sig .tc .vmem S60x128x128 .f32) (harg4 : arg4.IsWhole) (arg5 : Memref sig .tc .vmem S128x7680 .f32) (harg5 : arg5.IsWhole) (arg6 : Memref sig .tc .vmem S128x7680 .fp8e4m3) (harg6 : arg6.IsWhole) (arg7 : Memref sig .tc .vmem S128x128 .f32) (harg7 : arg7.IsWhole) (v3 : IVec S128x128 32)
    (X1 : BufTy.Contents (Elt F) arg1.view.ty) (X3 : BufTy.Contents (Elt F) arg3.view.ty) (X4 : BufTy.Contents (Elt F) arg4.view.ty)
    (G5 : BufTy.Contents (Elt F) arg5.view.ty) (G6 : BufTy.Contents (Elt F) arg6.view.ty) (G7 : BufTy.Contents (Elt F) arg7.view.ty) :
    ℕ → BufTy.Contents (Elt F) arg5.view.ty × BufTy.Contents (Elt F) arg6.view.ty × BufTy.Contents (Elt F) arg7.view.ty
  | 0 => (G5, G6, G7)
  | k + 1 => stStep c i arg1 harg1 arg2 harg2 arg3 harg3 arg4 harg4 arg5 harg5 arg6 harg6 arg7 harg7 v3 X1 X3 X4 k (ST c i arg1 harg1 arg2 harg2 arg3 harg3 arg4 harg4 arg5 harg5 arg6 harg6 arg7 harg7 v3 X1 X3 X4 G5 G6 G7 k)

theorem ST_succ (c : Dev nD) (i : grid0.Coords) (arg1 : Memref sig .tc .smem S1770 .f32) (harg1 : arg1.IsWhole) (arg2 : Memref sig .tc .vmem S128x7680 .f32) (harg2 : arg2.IsWhole) (arg3 : Memref sig .tc .vmem S1770x128x128 .fp8e4m3) (harg3 : arg3.IsWhole) (arg4 : Memref sig .tc .vmem S60x128x128 .f32) (harg4 : arg4.IsWhole) (arg5 : Memref sig .tc .vmem S128x7680 .f32) (harg5 : arg5.IsWhole) (arg6 : Memref sig .tc .vmem S128x7680 .fp8e4m3) (harg6 : arg6.IsWhole) (arg7 : Memref sig .tc .vmem S128x128 .f32) (harg7 : arg7.IsWhole) (v3 : IVec S128x128 32)
    (X1 : BufTy.Contents (Elt F) arg1.view.ty) (X3 : BufTy.Contents (Elt F) arg3.view.ty) (X4 : BufTy.Contents (Elt F) arg4.view.ty)
    (G5 : BufTy.Contents (Elt F) arg5.view.ty) (G6 : BufTy.Contents (Elt F) arg6.view.ty) (G7 : BufTy.Contents (Elt F) arg7.view.ty) (k : Fin k0_t1_loop.trips) :
    ST (F := F) c i arg1 harg1 arg2 harg2 arg3 harg3 arg4 harg4 arg5 harg5 arg6 harg6 arg7 harg7 v3 X1 X3 X4 G5 G6 G7 (k.val + 1)
      = ((trip1 (F := F) c i arg1 harg1 arg2 harg2 arg3 harg3 arg4 harg4 arg5 harg5 arg6 harg6 arg7 harg7 v3 X1 X3 X4 k).1 (ST (F := F) c i arg1 harg1 arg2 harg2 arg3 harg3 arg4 harg4 arg5 harg5 arg6 harg6 arg7 harg7 v3 X1 X3 X4 G5 G6 G7 k).1 (ST (F := F) c i arg1 harg1 arg2 harg2 arg3 harg3 arg4 harg4 arg5 harg5 arg6 harg6 arg7 harg7 v3 X1 X3 X4 G5 G6 G7 k).2.1 (ST (F := F) c i arg1 harg1 arg2 harg2 arg3 harg3 arg4 harg4 arg5 harg5 arg6 harg6 arg7 harg7 v3 X1 X3 X4 G5 G6 G7 k).2.2,
         (trip1 (F := F) c i arg1 harg1 arg2 harg2 arg3 harg3 arg4 harg4 arg5 harg5 arg6 harg6 arg7 harg7 v3 X1 X3 X4 k).2.1 (ST (F := F) c i arg1 harg1 arg2 harg2 arg3 harg3 arg4 harg4 arg5 harg5 arg6 harg6 arg7 harg7 v3 X1 X3 X4 G5 G6 G7 k).1 (ST (F := F) c i arg1 harg1 arg2 harg2 arg3 harg3 arg4 harg4 arg5 harg5 arg6 harg6 arg7 harg7 v3 X1 X3 X4 G5 G6 G7 k).2.1 (ST (F := F) c i arg1 harg1 arg2 harg2 arg3 harg3 arg4 harg4 arg5 harg5 arg6 harg6 arg7 harg7 v3 X1 X3 X4 G5 G6 G7 k).2.2,
         (trip1 (F := F) c i arg1 harg1 arg2 harg2 arg3 harg3 arg4 harg4 arg5 harg5 arg6 harg6 arg7 harg7 v3 X1 X3 X4 k).2.2.1 (ST (F := F) c i arg1 harg1 arg2 harg2 arg3 harg3 arg4 harg4 arg5 harg5 arg6 harg6 arg7 harg7 v3 X1 X3 X4 G5 G6 G7 k).1 (ST (F := F) c i arg1 harg1 arg2 harg2 arg3 harg3 arg4 harg4 arg5 harg5 arg6 harg6 arg7 harg7 v3 X1 X3 X4 G5 G6 G7 k).2.1 (ST (F := F) c i arg1 harg1 arg2 harg2 arg3 harg3 arg4 harg4 arg5 harg5 arg6 harg6 arg7 harg7 v3 X1 X3 X4 G5 G6 G7 k).2.2) := by
  rw [ST.eq_2]; unfold stStep; exact dif_pos k.isLt

/-- The outer loop's invariant: the inputs as they stand, the three results at `ST`, the carried word at `offw`. -/
def inv1 (c : Dev nD) (i : grid0.Coords) (arg1 : Memref sig .tc .smem S1770 .f32) (harg1 : arg1.IsWhole) (arg2 : Memref sig .tc .vmem S128x7680 .f32) (harg2 : arg2.IsWhole) (arg3 : Memref sig .tc .vmem S1770x128x128 .fp8e4m3) (harg3 : arg3.IsWhole) (arg4 : Memref sig .tc .vmem S60x128x128 .f32) (harg4 : arg4.IsWhole) (arg5 : Memref sig .tc .vmem S128x7680 .f32) (harg5 : arg5.IsWhole) (arg6 : Memref sig .tc .vmem S128x7680 .fp8e4m3) (harg6 : arg6.IsWhole) (arg7 : Memref sig .tc .vmem S128x128 .f32) (harg7 : arg7.IsWhole) (v3 : IVec S128x128 32)
    (X1 : BufTy.Contents (Elt F) arg1.view.ty) (X3 : BufTy.Contents (Elt F) arg3.view.ty) (X4 : BufTy.Contents (Elt F) arg4.view.ty)
    (G5 : BufTy.Contents (Elt F) arg5.view.ty) (G6 : BufTy.Contents (Elt F) arg6.view.ty) (G7 : BufTy.Contents (Elt F) arg7.view.ty) (k : ℕ) (acc : BitVec 32) : sProp 𝕄 :=
  iprop((arg1.view.loc (c : Thread nD τ) ↦[arg1.view.set]{fullShare} X1) ∗ (arg3.view.loc (c : Thread nD τ) ↦[arg3.view.set]{fullShare} X3) ∗ (arg4.view.loc (c : Thread nD τ) ↦[arg4.view.set]{fullShare} X4)
    ∗ (∃ f, (arg5.view.loc (c : Thread nD τ) ↦[arg5.view.set]{fullShare} f) ∗ ⌜f = (ST (F := F) c i arg1 harg1 arg2 harg2 arg3 harg3 arg4 harg4 arg5 harg5 arg6 harg6 arg7 harg7 v3 X1 X3 X4 G5 G6 G7 k).1⌝)
    ∗ (∃ f, (arg6.view.loc (c : Thread nD τ) ↦[arg6.view.set]{fullShare} f) ∗ ⌜f = (ST (F := F) c i arg1 harg1 arg2 harg2 arg3 harg3 arg4 harg4 arg5 harg5 arg6 harg6 arg7 harg7 v3 X1 X3 X4 G5 G6 G7 k).2.1⌝)
    ∗ (∃ f, (arg7.view.loc (c : Thread nD τ) ↦[arg7.view.set]{fullShare} f) ∗ ⌜f = (ST (F := F) c i arg1 harg1 arg2 harg2 arg3 harg3 arg4 harg4 arg5 harg5 arg6 harg6 arg7 harg7 v3 X1 X3 X4 G5 G6 G7 k).2.2⌝)
    ∗ ⌜acc = offw k⌝)

/-- One trip takes the invariant to the next. -/
theorem inv1_step (c : Dev nD) (i : grid0.Coords) (arg1 : Memref sig .tc .smem S1770 .f32) (harg1 : arg1.IsWhole) (arg2 : Memref sig .tc .vmem S128x7680 .f32) (harg2 : arg2.IsWhole) (arg3 : Memref sig .tc .vmem S1770x128x128 .fp8e4m3) (harg3 : arg3.IsWhole) (arg4 : Memref sig .tc .vmem S60x128x128 .f32) (harg4 : arg4.IsWhole) (arg5 : Memref sig .tc .vmem S128x7680 .f32) (harg5 : arg5.IsWhole) (arg6 : Memref sig .tc .vmem S128x7680 .fp8e4m3) (harg6 : arg6.IsWhole) (arg7 : Memref sig .tc .vmem S128x128 .f32) (harg7 : arg7.IsWhole) (v3 : IVec S128x128 32)
    (X1 : BufTy.Contents (Elt F) arg1.view.ty) (X3 : BufTy.Contents (Elt F) arg3.view.ty) (X4 : BufTy.Contents (Elt F) arg4.view.ty)
    (G5 : BufTy.Contents (Elt F) arg5.view.ty) (G6 : BufTy.Contents (Elt F) arg6.view.ty) (G7 : BufTy.Contents (Elt F) arg7.view.ty) (k : Fin k0_t1_loop.trips) (acc : BitVec 32) :
    inv1 (F := F) c i arg1 harg1 arg2 harg2 arg3 harg3 arg4 harg4 arg5 harg5 arg6 harg6 arg7 harg7 v3 X1 X3 X4 G5 G6 G7 k acc ⊢ wp frame (wpE (defs₀ (F := F)) 𝒱₀ (c : Thread nD τ) none) Set.univ
      (k0_t1_body (F := F) i arg1 harg1 arg2 harg2 arg3 harg3 arg4 harg4 arg5 harg5 arg6 harg6 arg7 harg7 v3 k acc) (inv1 (F := F) c i arg1 harg1 arg2 harg2 arg3 harg3 arg4 harg4 arg5 harg5 arg6 harg6 arg7 harg7 v3 X1 X3 X4 G5 G6 G7 (k.val + 1)) := by
  unfold inv1
  iintro ⟨H1, H3, H4, ⟨%f5, H5, %h5⟩, ⟨%f6, H6, %h6⟩, ⟨%f7, H7, %h7⟩, %hacc⟩
  subst hacc
  iapply (wp_wand_r Idealize.ShloMosaic.frame (wpE (defs₀ (F := F)) 𝒱₀ (c : Thread nD τ) none) Set.univ)
  isplitl [H1 H3 H4 H5 H6 H7]
  · iapply ((trip1 (F := F) c i arg1 harg1 arg2 harg2 arg3 harg3 arg4 harg4 arg5 harg5 arg6 harg6 arg7 harg7 v3 X1 X3 X4 k).2.2.2 Set.univ f5 f6 f7)
    isplitl [H1]; · iexact H1
    isplitl [H3]; · iexact H3
    isplitl [H4]; · iexact H4
    isplitl [H5]; · iexact H5
    isplitl [H6]; · iexact H6
    iexact H7
  · iintro %yld ⟨%hy, H1, H3, H4, H5, H6, H7⟩
    isplitl [H1]; · iexact H1
    isplitl [H3]; · iexact H3
    isplitl [H4]; · iexact H4
    isplitl [H5]
    · iexists _; isplitl [H5]; · iexact H5
      ipureintro; rw [ST_succ, h5, h6, h7]
    isplitl [H6]
    · iexists _; isplitl [H6]; · iexact H6
      ipureintro; rw [ST_succ, h5, h6, h7]
    isplitl [H7]
    · iexists _; isplitl [H7]; · iexact H7
      ipureintro; rw [ST_succ, h5, h6, h7]
    ipureintro; exact hy

/-- The whole loop, whatever follows it. -/
theorem loopRun (c : Dev nD) (i : grid0.Coords) (arg1 : Memref sig .tc .smem S1770 .f32) (harg1 : arg1.IsWhole) (arg2 : Memref sig .tc .vmem S128x7680 .f32) (harg2 : arg2.IsWhole) (arg3 : Memref sig .tc .vmem S1770x128x128 .fp8e4m3) (harg3 : arg3.IsWhole) (arg4 : Memref sig .tc .vmem S60x128x128 .f32) (harg4 : arg4.IsWhole) (arg5 : Memref sig .tc .vmem S128x7680 .f32) (harg5 : arg5.IsWhole) (arg6 : Memref sig .tc .vmem S128x7680 .fp8e4m3) (harg6 : arg6.IsWhole) (arg7 : Memref sig .tc .vmem S128x128 .f32) (harg7 : arg7.IsWhole) (v3 : IVec S128x128 32)
    (X1 : BufTy.Contents (Elt F) arg1.view.ty) (X3 : BufTy.Contents (Elt F) arg3.view.ty) (X4 : BufTy.Contents (Elt F) arg4.view.ty)
    (G5 : BufTy.Contents (Elt F) arg5.view.ty) (G6 : BufTy.Contents (Elt F) arg6.view.ty) (G7 : BufTy.Contents (Elt F) arg7.view.ty)
    {β : Type} {kk : BitVec 32 → Prog (TpuEff nD τ sig (Elt F) Λ₀ .tc) β} {Q : β → sProp 𝕄} :
    iprop(Trip1 (F := F) c arg1 arg3 arg4 arg5 arg6 arg7 X1 X3 X4 G5 G6 G7
        ∗ (∀ acc, (Trip1 (F := F) c arg1 arg3 arg4 arg5 arg6 arg7 X1 X3 X4
            (ST (F := F) c i arg1 harg1 arg2 harg2 arg3 harg3 arg4 harg4 arg5 harg5 arg6 harg6 arg7 harg7 v3 X1 X3 X4 G5 G6 G7 k0_t1_loop.trips).1 (ST (F := F) c i arg1 harg1 arg2 harg2 arg3 harg3 arg4 harg4 arg5 harg5 arg6 harg6 arg7 harg7 v3 X1 X3 X4 G5 G6 G7 k0_t1_loop.trips).2.1 (ST (F := F) c i arg1 harg1 arg2 harg2 arg3 harg3 arg4 harg4 arg5 harg5 arg6 harg6 arg7 harg7 v3 X1 X3 X4 G5 G6 G7 k0_t1_loop.trips).2.2)
          -∗ wp frame (wpE (defs₀ (F := F)) 𝒱₀ (c : Thread nD τ) none) Set.univ (kk acc) Q))
      ⊢ wp frame (wpE (defs₀ (F := F)) 𝒱₀ (c : Thread nD τ) none) Set.univ
          (k0_t1_loop.for k0_t1_ok (0#32) (k0_t1_body (F := F) i arg1 harg1 arg2 harg2 arg3 harg3 arg4 harg4 arg5 harg5 arg6 harg6 arg7 harg7 v3) >>= kk) Q := by
  iintro ⟨⟨H1, H3, H4, H5, H6, H7⟩, Hk⟩
  iapply (Scf.wp_for_bind frame (wpE (defs₀ (F := F)) 𝒱₀ (c : Thread nD τ) none) Set.univ _ _ _ k0_t1_ok (0#32)
    (k0_t1_body (F := F) i arg1 harg1 arg2 harg2 arg3 harg3 arg4 harg4 arg5 harg5 arg6 harg6 arg7 harg7 v3) (inv1 (F := F) c i arg1 harg1 arg2 harg2 arg3 harg3 arg4 harg4 arg5 harg5 arg6 harg6 arg7 harg7 v3 X1 X3 X4 G5 G6 G7) (inv1_step (F := F) c i arg1 harg1 arg2 harg2 arg3 harg3 arg4 harg4 arg5 harg5 arg6 harg6 arg7 harg7 v3 X1 X3 X4 G5 G6 G7)) $$ [H1 H3 H4 H5 H6 H7]
  · unfold inv1
    isplitl [H1]; · iexact H1
    isplitl [H3]; · iexact H3
    isplitl [H4]; · iexact H4
    isplitl [H5]
    · iexists _; isplitl [H5]; · iexact H5
      ipureintro; rfl
    isplitl [H6]
    · iexists _; isplitl [H6]; · iexact H6
      ipureintro; rfl
    isplitl [H7]
    · iexists _; isplitl [H7]; · iexact H7
      ipureintro; rfl
    ipureintro; rfl
  · iintro %acc HI
    unfold inv1
    icases HI with ⟨H1, H3, H4, ⟨%f5, H5, %h5⟩, ⟨%f6, H6, %h6⟩, ⟨%f7, H7, %h7⟩, %hacc⟩
    subst h5 h6 h7
    iapply Hk
    isplitl [H1]; · iexact H1
    isplitl [H3]; · iexact H3
    isplitl [H4]; · iexact H4
    isplitl [H5]; · iexact H5
    isplitl [H6]; · iexact H6
    iexact H7

/-- The running panels at loop entry: the right-hand sides' block, as the body copies it. -/
def init5 (arg2 : Memref sig .tc .vmem S128x7680 .f32) (arg5 : Memref sig .tc .vmem S128x7680 .f32)
    (X2 : BufTy.Contents (Elt F) arg2.view.ty) : BufTy.Contents (Elt F) arg5.view.ty :=
  arg5.view.writes (Elt F) arg5.view.junk [⟨Rect.unit (s := S128x7680) ![0, 0] S128x7680.size inb_S128x7680_S128x7680_0_0,
    k0_pay1 (arg2.view.readAt (Elt F) (Rect.unit (s := S128x7680) ![0, 0] S128x7680.size inb_S128x7680_S128x7680_0_0).toLoadRect X2)⟩]

/-- The row scales at loop entry: zeros. -/
def init7 (arg7 : Memref sig .tc .vmem S128x128 .f32) : BufTy.Contents (Elt F) arg7.view.ty :=
  arg7.view.writes (Elt F) arg7.view.junk [⟨Rect.unit (s := S128x128) ![0, 0] S128x128.size inb_S128x128_S128x128_0_0, k0_pay2 (F := F)⟩]

/-- The lane numbers the scales' update compares with. -/
abbrev lanes : IVec S128x128 32 := iota .tc S128x128 32 [1] iota_S128x128_d1_w32

/-- THE BODY: from any contents of the windows' staging memrefs it runs to its return, leaving the inputs as they
    stand and the three results at `ST` after the last trip. -/
theorem kernelRun (c : Dev nD) (i : grid0.Coords) (arg1 : Memref sig .tc .smem S1770 .f32) (harg1 : arg1.IsWhole) (arg2 : Memref sig .tc .vmem S128x7680 .f32) (harg2 : arg2.IsWhole) (arg3 : Memref sig .tc .vmem S1770x128x128 .fp8e4m3) (harg3 : arg3.IsWhole) (arg4 : Memref sig .tc .vmem S60x128x128 .f32) (harg4 : arg4.IsWhole) (arg5 : Memref sig .tc .vmem S128x7680 .f32) (harg5 : arg5.IsWhole) (arg6 : Memref sig .tc .vmem S128x7680 .fp8e4m3) (harg6 : arg6.IsWhole) (arg7 : Memref sig .tc .vmem S128x128 .f32) (harg7 : arg7.IsWhole)
    (X1 : BufTy.Contents (Elt F) arg1.view.ty) (X3 : BufTy.Contents (Elt F) arg3.view.ty) (X4 : BufTy.Contents (Elt F) arg4.view.ty) (X2 : BufTy.Contents (Elt F) arg2.view.ty)
    (f5 : BufTy.Contents (Elt F) arg5.view.ty) (f6 : BufTy.Contents (Elt F) arg6.view.ty) (f7 : BufTy.Contents (Elt F) arg7.view.ty) (K : PUnit → sProp 𝕄) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
        ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7)
        ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
            ∗ (arg5.view.loc (c : Thread nD τ) ↦[arg5.view.set]{fullShare} (ST (F := F) c i arg1 harg1 arg2 harg2 arg3 harg3 arg4 harg4 arg5 harg5 arg6 harg6 arg7 harg7 lanes X1 X3 X4 (init5 arg2 arg5 X2) f6 (init7 arg7) k0_t1_loop.trips).1)
            ∗ (arg6.view.loc (c : Thread nD τ) ↦[arg6.view.set]{fullShare} (ST (F := F) c i arg1 harg1 arg2 harg2 arg3 harg3 arg4 harg4 arg5 harg5 arg6 harg6 arg7 harg7 lanes X1 X3 X4 (init5 arg2 arg5 X2) f6 (init7 arg7) k0_t1_loop.trips).2.1)
            ∗ (arg7.view.loc (c : Thread nD τ) ↦[arg7.view.set]{fullShare} (ST (F := F) c i arg1 harg1 arg2 harg2 arg3 harg3 arg4 harg4 arg5 harg5 arg6 harg6 arg7 harg7 lanes X1 X3 X4 (init5 arg2 arg5 X2) f6 (init7 arg7) k0_t1_loop.trips).2.2)) -∗ K ⟨⟩))
      ⊢ wp frame (wpE (defs₀ (F := F)) 𝒱₀ c none) Set.univ (cc0_fwd_subst i arg1 harg1 arg2 harg2 arg3 harg3 arg4 harg4 arg5 harg5 arg6 harg6 arg7 harg7) K := by
  simp only [cc0_fwd_subst_eq_skeleton]; unfold cc0_fwd_subst_skel
  iintro ⟨H1, H2, H3, H4, H5, H6, H7, Hk⟩
  sl_exec
  iapply (loopRun (F := F) c i arg1 harg1 arg2 harg2 arg3 harg3 arg4 harg4 arg5 harg5 arg6 harg6 arg7 harg7 _ X1 X3 X4)
  isplitl [H1 H3 H4 H5 H6 H7]
  · isplitl [H1]; · iexact H1
    isplitl [H3]; · iexact H3
    isplitl [H4]; · iexact H4
    isplitl [H5]; · iexact H5
    isplitl [H6]; · iexact H6
    iexact H7
  iintro %acc ⟨H1, H3, H4, H5, H6, H7⟩
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  iexact H7

end Cert.Proof.Kernel

end
-- ==== Proof.KernelFrame.lean ====
/-
  The frame of the forward substitution's pipeline (hand-written): from the body's triple, every execution runs to its
  end with the arguments unchanged and every semaphore back at zero. The three outputs are forgotten here: nothing reads
  what the body leaves in them. Generic in the float arithmetic.
-/
module

public import proofs.«01_k».proof.Proof.KernelLoop
public import Idealize.ShloMosaic.Lib.Pipeline.Frame
public import Idealize.ShloMosaic.Lib.Tactic

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three outputs, forgotten. -/
def forgets : Fin 7 → Bool := ![false, false, false, false, true, true, true]

/-- The proof data on core `c`: the arrays as the region finds them; an input's buffer left at its block. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem fA_eq (c : Dev nD) (w : Fin cfg0.W) : (fdats m 0 c).A w = V m c (Pipeline.arrRef spec0 w) := by dsimp only [fdats]

def bodyPreF (c : Dev nD) (t : Fin cfg0.N) : sProp 𝕄 :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare ((fdats m 0 c).before 3 t d))
    ∗ (∃ d, owns (c : Thread nD τ) (st0_4 t) fullShare d)
    ∗ (∃ d, owns (c : Thread nD τ) (st0_5 t) fullShare d)
    ∗ (∃ d, owns (c : Thread nD τ) (st0_6 t) fullShare d))
def bodyPostF (c : Dev nD) (t : Fin cfg0.N) : sProp 𝕄 :=
  iprop((fdats m 0 c).Φ t.succ ∗ (fdats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ (∃ d, owns (c : Thread nD τ) (st0_4 t) fullShare d)
    ∗ (∃ d, owns (c : Thread nD τ) (st0_5 t) fullShare d)
    ∗ (∃ d, owns (c : Thread nD τ) (st0_6 t) fullShare d))

/-- The body at a point: the kernel's run between the windows' staging memrefs. -/
theorem sound_bodyF (c : Dev nD) (t : Fin cfg0.N) :
    bodyPreF m c t ⊢ wp frame (wpE (defs₀ (F := F)) 𝒱₀ c none) Set.univ (bodyAt0 t) (fun _ => bodyPostF m c t) := by
  unfold bodyPreF bodyPostF bodyAt0
  rw [show (fdats m 0 c).Φ t.succ = (fdats m 0 c).Φ t.castSucc from rfl,
    show (fdats m 0 c).owesAt () t.succ = (fdats m 0 c).owesAt () t.castSucc from rfl]
  have h0 := before0_0_of m (fdats m 0 c) (fA_eq m c 0) (fun _ => rfl) t
  have h1 := before0_1_of m (fdats m 0 c) (fA_eq m c 1) (fun _ => rfl) t
  have h2 := before0_2_of m (fdats m 0 c) (fA_eq m c 2) (fun _ => rfl) t
  have h3 := before0_3_of m (fdats m 0 c) (fA_eq m c 3) (fun _ => rfl) t
  simp only [h0, h1, h2, h3]
  unfold owns
  iintro ⟨HΦ, HO, ⟨%d0, %f0, %e0, H0⟩, ⟨%d1, %f1, %e1, H1⟩, ⟨%d2, %f2, %e2, H2⟩, ⟨%d3, %f3, %e3, H3⟩, ⟨%d4, %f4, -, H4⟩, ⟨%d5, %f5, -, H5⟩, ⟨%d6, %f6, -, H6⟩⟩
  iapply (kernelRun (F := F) c (grid0.coords t) (st0_0 t) _ (st0_1 t) _ (st0_2 t) _ (st0_3 t) _ (st0_4 t) _ (st0_5 t) _ (st0_6 t) _ f0 f2 f3 f1 f4 f5 f6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [HO]; · iexact HO
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists _, _; isplitr; swap; · iexact H4
    ipureintro; rfl
  isplitl [H5]
  · iexists _, _; isplitr; swap; · iexact H5
    ipureintro; rfl
  iexists _, _; isplitr; swap; · iexact H6
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligationF (c : Dev nD) :
    BodyObligation (fdats (F := F) m 0 c) (defs₀ (F := F)) 𝒱₀ () Set.univ forgets := fun t => by
  rw [bigSep_W0, bigSep_W0, defs₀_row]
  exact triple_restated (sound_bodyF m c t) rfl .rfl fun _ => .rfl

theorem shareF_eq (c : Dev nD) (w : Fin cfg0.W) : (fdats m 0 c).share w = fullShare := by
  unfold Dat.share; split <;> rfl

set_option backward.isDefEq.respectTransparency.types false in
/-- Every execution runs to its end, the arguments unchanged and every semaphore counter at zero. -/
theorem run_frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_forget cfgs (fdats m) (0 : Fin 1) launch0 defs₀ 𝒱₀ forgets m ρ main
    (fun c => (body_obligationF m c).loose) (shareF_eq m) (fun _ _ => rfl) (V m) (hmain m 𝒱₀) (fA_eq m) (fun _ _ => rfl)
    (Q' := _)
    (hQ' := fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)

end Cert.Proof.Kernel

end
-- ==== Proof.KernelIdealLoop.lean ====
/-
  The outer loop of the forward substitution (hand-written): one trip of `k0_t1_loop` at a symbolic trip, run once by
  `sl_exec` (the inner loop over the later panels by its generated invariant), the loop's invariant, and the kernel
  body's triple. Generic in the float arithmetic.
-/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev 𝒱₀ : Variants := Variants.none

local notation "𝕄" => MT nD τ sig Unit (Elt F) ℕ (UR sig nD τ) ℕ

/-- The word the outer loop carries before trip `k`: the number of the first tile of block column `k`, the block
    columns below the diagonal being stored one after the other. -/
def offw (k : ℕ) : BitVec 32 := BitVec.ofNat 32 (k * 60 - k * (k + 1) / 2)

theorem offw_zero : offw 0 = 0#32 := rfl

/-- The tiles the trip reads lie inside the array of tiles. -/
theorem chk_offw : ∀ k : Fin k0_t1_loop.trips, k0_chk1 k (offw k.val) := by decide +kernel

/-- The trip hands on the next trip's word. -/
theorem offw_succ : ∀ k : Fin k0_t1_loop.trips,
    Scalar.subi (Scalar.subi (Scalar.addi (offw k.val) 60#32) 1#32) (Scf.iv 0#32 1#32 k) = offw (k.val + 1) := by
  decide +kernel

/-- One trip's resources: the scales, the tiles and the inverses it reads, the three results it writes. -/
abbrev Trip1 (c : Dev nD) (arg1 : Memref sig .tc .smem S1770 .f32) (arg3 : Memref sig .tc .vmem S1770x128x128 .fp8e4m3) (arg4 : Memref sig .tc .vmem S60x128x128 .f32) (arg5 : Memref sig .tc .vmem S128x7680 .f32) (arg6 : Memref sig .tc .vmem S128x7680 .fp8e4m3) (arg7 : Memref sig .tc .vmem S128x128 .f32)
    (X1 : BufTy.Contents (Elt F) arg1.view.ty) (X3 : BufTy.Contents (Elt F) arg3.view.ty) (X4 : BufTy.Contents (Elt F) arg4.view.ty)
    (f5 : BufTy.Contents (Elt F) arg5.view.ty) (f6 : BufTy.Contents (Elt F) arg6.view.ty) (f7 : BufTy.Contents (Elt F) arg7.view.ty) : sProp 𝕄 :=
  iprop((arg1.view.loc (c : Thread nD τ) ↦[arg1.view.set]{fullShare} X1) ∗ (arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7))

/-- ONE TRIP at a symbolic `k`: what it leaves in the three results, as functions of what it finds there. -/
@[irreducible] def trip1 (c : Dev nD) (i : grid0.Coords) (arg1 : Memref sig .tc .smem S1770 .f32) (harg1 : arg1.IsWhole) (arg2 : Memref sig .tc .vmem S128x7680 .f32) (harg2 : arg2.IsWhole) (arg3 : Memref sig .tc .vmem S1770x128x128 .fp8e4m3) (harg3 : arg3.IsWhole) (arg4 : Memref sig .tc .vmem S60x128x128 .f32) (harg4 : arg4.IsWhole) (arg5 : Memref sig .tc .vmem S128x7680 .f32) (harg5 : arg5.IsWhole) (arg6 : Memref sig .tc .vmem S128x7680 .fp8e4m3) (harg6 : arg6.IsWhole) (arg7 : Memref sig .tc .vmem S128x128 .f32) (harg7 : arg7.IsWhole) (v3 : IVec S128x128 32)
    (X1 : BufTy.Contents (Elt F) arg1.view.ty) (X3 : BufTy.Contents (Elt F) arg3.view.ty) (X4 : BufTy.Contents (Elt F) arg4.view.ty) (k : Fin k0_t1_loop.trips) :
    Σ' (N5 : BufTy.Contents (Elt F) arg5.view.ty → BufTy.Contents (Elt F) arg6.view.ty → BufTy.Contents (Elt F) arg7.view.ty → BufTy.Contents (Elt F) arg5.view.ty)
       (N6 : BufTy.Contents (Elt F) arg5.view.ty → BufTy.Contents (Elt F) arg6.view.ty → BufTy.Contents (Elt F) arg7.view.ty → BufTy.Contents (Elt F) arg6.view.ty),
      { N7 : BufTy.Contents (Elt F) arg5.view.ty → BufTy.Contents (Elt F) arg6.view.ty → BufTy.Contents (Elt F) arg7.view.ty → BufTy.Contents (Elt F) arg7.view.ty //
        ∀ (E : Set ℕ) (f5 : BufTy.Contents (Elt F) arg5.view.ty) (f6 : BufTy.Contents (Elt F) arg6.view.ty) (f7 : BufTy.Contents (Elt F) arg7.view.ty),
        Trip1 (F := F) c arg1 arg3 arg4 arg5 arg6 arg7 X1 X3 X4 f5 f6 f7
        ⊢ wp frame (wpE (defs₀ (F := F)) 𝒱₀ (c : Thread nD τ) none) E
            (k0_t1_body (F := F) i arg1 harg1 arg2 harg2 arg3 harg3 arg4 harg4 arg5 harg5 arg6 harg6 arg7 harg7 v3 k (offw k.val))
            (fun yld => iprop(⌜yld = offw (k.val + 1)⌝
              ∗ Trip1 (F := F) c arg1 arg3 arg4 arg5 arg6 arg7 X1 X3 X4 (N5 f5 f6 f7) (N6 f5 f6 f7) (N7 f5 f6 f7))) } := by
  have hchk := chk_offw k
  have hsucc := offw_succ k
  refine ⟨?_, ?_, ?_, fun E f5 f6 f7 => ?run⟩
  case run =>
    unfold k0_t1_body
    iintro ⟨H1, H3, H4, H5, H6, H7⟩
    sl_exec
    sl_step
    sl_close

/-- What trip `k` leaves in the three results, from what it finds there. -/
@[irreducible] def stStep (c : Dev nD) (i : grid0.Coords) (arg1 : Memref sig .tc .smem S1770 .f32) (harg1 : arg1.IsWhole) (arg2 : Memref sig .tc .vmem S128x7680 .f32) (harg2 : arg2.IsWhole) (arg3 : Memref sig .tc .vmem S1770x128x128 .fp8e4m3) (harg3 : arg3.IsWhole) (arg4 : Memref sig .tc .vmem S60x128x128 .f32) (harg4 : arg4.IsWhole) (arg5 : Memref sig .tc .vmem S128x7680 .f32) (harg5 : arg5.IsWhole) (arg6 : Memref sig .tc .vmem S128x7680 .fp8e4m3) (harg6 : arg6.IsWhole) (arg7 : Memref sig .tc .vmem S128x128 .f32) (harg7 : arg7.IsWhole) (v3 : IVec S128x128 32)
    (X1 : BufTy.Contents (Elt F) arg1.view.ty) (X3 : BufTy.Contents (Elt F) arg3.view.ty) (X4 : BufTy.Contents (Elt F) arg4.view.ty) (k : ℕ) (s : BufTy.Contents (Elt F) arg5.view.ty × BufTy.Contents (Elt F) arg6.view.ty × BufTy.Contents (Elt F) arg7.view.ty) :
    BufTy.Contents (Elt F) arg5.view.ty × BufTy.Contents (Elt F) arg6.view.ty × BufTy.Contents (Elt F) arg7.view.ty :=
  if h : k < k0_t1_loop.trips then
    ((trip1 (F := F) c i arg1 harg1 arg2 harg2 arg3 harg3 arg4 harg4 arg5 harg5 arg6 harg6 arg7 harg7 v3 X1 X3 X4 ⟨k, h⟩).1 s.1 s.2.1 s.2.2, (trip1 (F := F) c i arg1 harg1 arg2 harg2 arg3 harg3 arg4 harg4 arg5 harg5 arg6 harg6 arg7 harg7 v3 X1 X3 X4 ⟨k, h⟩).2.1 s.1 s.2.1 s.2.2, (trip1 (F := F) c i arg1 harg1 arg2 harg2 arg3 harg3 arg4 harg4 arg5 harg5 arg6 harg6 arg7 harg7 v3 X1 X3 X4 ⟨k, h⟩).2.2.1 s.1 s.2.1 s.2.2)
  else s

/-- The three results before trip `k`, from their contents at loop entry. -/
def ST (c : Dev nD) (i : grid0.Coords) (arg1 : Memref sig .tc .smem S1770 .f32) (harg1 : arg1.IsWhole) (arg2 : Memref sig .tc .vmem S128x7680 .f32) (harg2 : arg2.IsWhole) (arg3 : Memref sig .tc .vmem S1770x128x128 .fp8e4m3) (harg3 : arg3.IsWhole) (arg4 : Memref sig .tc .vmem S60x128x128 .f32) (harg4 : arg4.IsWhole) (arg5 : Memref sig .tc .vmem S128x7680 .f32) (harg5 : arg5.IsWhole) (arg6 : Memref sig .tc .vmem S128x7680 .fp8e4m3) (harg6 : arg6.IsWhole) (arg7 : Memref sig .tc .vmem S128x128 .f32) (harg7 : arg7.IsWhole) (v3 : IVec S128x128 32)
    (X1 : BufTy.Contents (Elt F) arg1.view.ty) (X3 : BufTy.Contents (Elt F) arg3.view.ty) (X4 : BufTy.Contents (Elt F) arg4.view.ty)
    (G5 : BufTy.Contents (Elt F) arg5.view.ty) (G6 : BufTy.Contents (Elt F) arg6.view.ty) (G7 : BufTy.Contents (Elt F) arg7.view.ty) :
    ℕ → BufTy.Contents (Elt F) arg5.view.ty × BufTy.Contents (Elt F) arg6.view.ty × BufTy.Contents (Elt F) arg7.view.ty
  | 0 => (G5, G6, G7)
  | k + 1 => stStep c i arg1 harg1 arg2 harg2 arg3 harg3 arg4 harg4 arg5 harg5 arg6 harg6 arg7 harg7 v3 X1 X3 X4 k (ST c i arg1 harg1 arg2 harg2 arg3 harg3 arg4 harg4 arg5 harg5 arg6 harg6 arg7 harg7 v3 X1 X3 X4 G5 G6 G7 k)

theorem ST_succ (c : Dev nD) (i : grid0.Coords) (arg1 : Memref sig .tc .smem S1770 .f32) (harg1 : arg1.IsWhole) (arg2 : Memref sig .tc .vmem S128x7680 .f32) (harg2 : arg2.IsWhole) (arg3 : Memref sig .tc .vmem S1770x128x128 .fp8e4m3) (harg3 : arg3.IsWhole) (arg4 : Memref sig .tc .vmem S60x128x128 .f32) (harg4 : arg4.IsWhole) (arg5 : Memref sig .tc .vmem S128x7680 .f32) (harg5 : arg5.IsWhole) (arg6 : Memref sig .tc .vmem S128x7680 .fp8e4m3) (harg6 : arg6.IsWhole) (arg7 : Memref sig .tc .vmem S128x128 .f32) (harg7 : arg7.IsWhole) (v3 : IVec S128x128 32)
    (X1 : BufTy.Contents (Elt F) arg1.view.ty) (X3 : BufTy.Contents (Elt F) arg3.view.ty) (X4 : BufTy.Contents (Elt F) arg4.view.ty)
    (G5 : BufTy.Contents (Elt F) arg5.view.ty) (G6 : BufTy.Contents (Elt F) arg6.view.ty) (G7 : BufTy.Contents (Elt F) arg7.view.ty) (k : Fin k0_t1_loop.trips) :
    ST (F := F) c i arg1 harg1 arg2 harg2 arg3 harg3 arg4 harg4 arg5 harg5 arg6 harg6 arg7 harg7 v3 X1 X3 X4 G5 G6 G7 (k.val + 1)
      = ((trip1 (F := F) c i arg1 harg1 arg2 harg2 arg3 harg3 arg4 harg4 arg5 harg5 arg6 harg6 arg7 harg7 v3 X1 X3 X4 k).1 (ST (F := F) c i arg1 harg1 arg2 harg2 arg3 harg3 arg4 harg4 arg5 harg5 arg6 harg6 arg7 harg7 v3 X1 X3 X4 G5 G6 G7 k).1 (ST (F := F) c i arg1 harg1 arg2 harg2 arg3 harg3 arg4 harg4 arg5 harg5 arg6 harg6 arg7 harg7 v3 X1 X3 X4 G5 G6 G7 k).2.1 (ST (F := F) c i arg1 harg1 arg2 harg2 arg3 harg3 arg4 harg4 arg5 harg5 arg6 harg6 arg7 harg7 v3 X1 X3 X4 G5 G6 G7 k).2.2,
         (trip1 (F := F) c i arg1 harg1 arg2 harg2 arg3 harg3 arg4 harg4 arg5 harg5 arg6 harg6 arg7 harg7 v3 X1 X3 X4 k).2.1 (ST (F := F) c i arg1 harg1 arg2 harg2 arg3 harg3 arg4 harg4 arg5 harg5 arg6 harg6 arg7 harg7 v3 X1 X3 X4 G5 G6 G7 k).1 (ST (F := F) c i arg1 harg1 arg2 harg2 arg3 harg3 arg4 harg4 arg5 harg5 arg6 harg6 arg7 harg7 v3 X1 X3 X4 G5 G6 G7 k).2.1 (ST (F := F) c i arg1 harg1 arg2 harg2 arg3 harg3 arg4 harg4 arg5 harg5 arg6 harg6 arg7 harg7 v3 X1 X3 X4 G5 G6 G7 k).2.2,
         (trip1 (F := F) c i arg1 harg1 arg2 harg2 arg3 harg3 arg4 harg4 arg5 harg5 arg6 harg6 arg7 harg7 v3 X1 X3 X4 k).2.2.1 (ST (F := F) c i arg1 harg1 arg2 harg2 arg3 harg3 arg4 harg4 arg5 harg5 arg6 harg6 arg7 harg7 v3 X1 X3 X4 G5 G6 G7 k).1 (ST (F := F) c i arg1 harg1 arg2 harg2 arg3 harg3 arg4 harg4 arg5 harg5 arg6 harg6 arg7 harg7 v3 X1 X3 X4 G5 G6 G7 k).2.1 (ST (F := F) c i arg1 harg1 arg2 harg2 arg3 harg3 arg4 harg4 arg5 harg5 arg6 harg6 arg7 harg7 v3 X1 X3 X4 G5 G6 G7 k).2.2) := by
  rw [ST.eq_2]; unfold stStep; exact dif_pos k.isLt

/-- The outer loop's invariant: the inputs as they stand, the three results at `ST`, the carried word at `offw`. -/
def inv1 (c : Dev nD) (i : grid0.Coords) (arg1 : Memref sig .tc .smem S1770 .f32) (harg1 : arg1.IsWhole) (arg2 : Memref sig .tc .vmem S128x7680 .f32) (harg2 : arg2.IsWhole) (arg3 : Memref sig .tc .vmem S1770x128x128 .fp8e4m3) (harg3 : arg3.IsWhole) (arg4 : Memref sig .tc .vmem S60x128x128 .f32) (harg4 : arg4.IsWhole) (arg5 : Memref sig .tc .vmem S128x7680 .f32) (harg5 : arg5.IsWhole) (arg6 : Memref sig .tc .vmem S128x7680 .fp8e4m3) (harg6 : arg6.IsWhole) (arg7 : Memref sig .tc .vmem S128x128 .f32) (harg7 : arg7.IsWhole) (v3 : IVec S128x128 32)
    (X1 : BufTy.Contents (Elt F) arg1.view.ty) (X3 : BufTy.Contents (Elt F) arg3.view.ty) (X4 : BufTy.Contents (Elt F) arg4.view.ty)
    (G5 : BufTy.Contents (Elt F) arg5.view.ty) (G6 : BufTy.Contents (Elt F) arg6.view.ty) (G7 : BufTy.Contents (Elt F) arg7.view.ty) (k : ℕ) (acc : BitVec 32) : sProp 𝕄 :=
  iprop((arg1.view.loc (c : Thread nD τ) ↦[arg1.view.set]{fullShare} X1) ∗ (arg3.view.loc (c : Thread nD τ) ↦[arg3.view.set]{fullShare} X3) ∗ (arg4.view.loc (c : Thread nD τ) ↦[arg4.view.set]{fullShare} X4)
    ∗ (∃ f, (arg5.view.loc (c : Thread nD τ) ↦[arg5.view.set]{fullShare} f) ∗ ⌜f = (ST (F := F) c i arg1 harg1 arg2 harg2 arg3 harg3 arg4 harg4 arg5 harg5 arg6 harg6 arg7 harg7 v3 X1 X3 X4 G5 G6 G7 k).1⌝)
    ∗ (∃ f, (arg6.view.loc (c : Thread nD τ) ↦[arg6.view.set]{fullShare} f) ∗ ⌜f = (ST (F := F) c i arg1 harg1 arg2 harg2 arg3 harg3 arg4 harg4 arg5 harg5 arg6 harg6 arg7 harg7 v3 X1 X3 X4 G5 G6 G7 k).2.1⌝)
    ∗ (∃ f, (arg7.view.loc (c : Thread nD τ) ↦[arg7.view.set]{fullShare} f) ∗ ⌜f = (ST (F := F) c i arg1 harg1 arg2 harg2 arg3 harg3 arg4 harg4 arg5 harg5 arg6 harg6 arg7 harg7 v3 X1 X3 X4 G5 G6 G7 k).2.2⌝)
    ∗ ⌜acc = offw k⌝)

/-- One trip takes the invariant to the next. -/
theorem inv1_step (c : Dev nD) (i : grid0.Coords) (arg1 : Memref sig .tc .smem S1770 .f32) (harg1 : arg1.IsWhole) (arg2 : Memref sig .tc .vmem S128x7680 .f32) (harg2 : arg2.IsWhole) (arg3 : Memref sig .tc .vmem S1770x128x128 .fp8e4m3) (harg3 : arg3.IsWhole) (arg4 : Memref sig .tc .vmem S60x128x128 .f32) (harg4 : arg4.IsWhole) (arg5 : Memref sig .tc .vmem S128x7680 .f32) (harg5 : arg5.IsWhole) (arg6 : Memref sig .tc .vmem S128x7680 .fp8e4m3) (harg6 : arg6.IsWhole) (arg7 : Memref sig .tc .vmem S128x128 .f32) (harg7 : arg7.IsWhole) (v3 : IVec S128x128 32)
    (X1 : BufTy.Contents (Elt F) arg1.view.ty) (X3 : BufTy.Contents (Elt F) arg3.view.ty) (X4 : BufTy.Contents (Elt F) arg4.view.ty)
    (G5 : BufTy.Contents (Elt F) arg5.view.ty) (G6 : BufTy.Contents (Elt F) arg6.view.ty) (G7 : BufTy.Contents (Elt F) arg7.view.ty) (k : Fin k0_t1_loop.trips) (acc : BitVec 32) :
    inv1 (F := F) c i arg1 harg1 arg2 harg2 arg3 harg3 arg4 harg4 arg5 harg5 arg6 harg6 arg7 harg7 v3 X1 X3 X4 G5 G6 G7 k acc ⊢ wp frame (wpE (defs₀ (F := F)) 𝒱₀ (c : Thread nD τ) none) Set.univ
      (k0_t1_body (F := F) i arg1 harg1 arg2 harg2 arg3 harg3 arg4 harg4 arg5 harg5 arg6 harg6 arg7 harg7 v3 k acc) (inv1 (F := F) c i arg1 harg1 arg2 harg2 arg3 harg3 arg4 harg4 arg5 harg5 arg6 harg6 arg7 harg7 v3 X1 X3 X4 G5 G6 G7 (k.val + 1)) := by
  unfold inv1
  iintro ⟨H1, H3, H4, ⟨%f5, H5, %h5⟩, ⟨%f6, H6, %h6⟩, ⟨%f7, H7, %h7⟩, %hacc⟩
  subst hacc
  iapply (wp_wand_r Idealize.ShloMosaic.frame (wpE (defs₀ (F := F)) 𝒱₀ (c : Thread nD τ) none) Set.univ)
  isplitl [H1 H3 H4 H5 H6 H7]
  · iapply ((trip1 (F := F) c i arg1 harg1 arg2 harg2 arg3 harg3 arg4 harg4 arg5 harg5 arg6 harg6 arg7 harg7 v3 X1 X3 X4 k).2.2.2 Set.univ f5 f6 f7)
    isplitl [H1]; · iexact H1
    isplitl [H3]; · iexact H3
    isplitl [H4]; · iexact H4
    isplitl [H5]; · iexact H5
    isplitl [H6]; · iexact H6
    iexact H7
  · iintro %yld ⟨%hy, H1, H3, H4, H5, H6, H7⟩
    isplitl [H1]; · iexact H1
    isplitl [H3]; · iexact H3
    isplitl [H4]; · iexact H4
    isplitl [H5]
    · iexists _; isplitl [H5]; · iexact H5
      ipureintro; rw [ST_succ, h5, h6, h7]
    isplitl [H6]
    · iexists _; isplitl [H6]; · iexact H6
      ipureintro; rw [ST_succ, h5, h6, h7]
    isplitl [H7]
    · iexists _; isplitl [H7]; · iexact H7
      ipureintro; rw [ST_succ, h5, h6, h7]
    ipureintro; exact hy

/-- The whole loop, whatever follows it. -/
theorem loopRun (c : Dev nD) (i : grid0.Coords) (arg1 : Memref sig .tc .smem S1770 .f32) (harg1 : arg1.IsWhole) (arg2 : Memref sig .tc .vmem S128x7680 .f32) (harg2 : arg2.IsWhole) (arg3 : Memref sig .tc .vmem S1770x128x128 .fp8e4m3) (harg3 : arg3.IsWhole) (arg4 : Memref sig .tc .vmem S60x128x128 .f32) (harg4 : arg4.IsWhole) (arg5 : Memref sig .tc .vmem S128x7680 .f32) (harg5 : arg5.IsWhole) (arg6 : Memref sig .tc .vmem S128x7680 .fp8e4m3) (harg6 : arg6.IsWhole) (arg7 : Memref sig .tc .vmem S128x128 .f32) (harg7 : arg7.IsWhole) (v3 : IVec S128x128 32)
    (X1 : BufTy.Contents (Elt F) arg1.view.ty) (X3 : BufTy.Contents (Elt F) arg3.view.ty) (X4 : BufTy.Contents (Elt F) arg4.view.ty)
    (G5 : BufTy.Contents (Elt F) arg5.view.ty) (G6 : BufTy.Contents (Elt F) arg6.view.ty) (G7 : BufTy.Contents (Elt F) arg7.view.ty)
    {β : Type} {kk : BitVec 32 → Prog (TpuEff nD τ sig (Elt F) Λ₀ .tc) β} {Q : β → sProp 𝕄} :
    iprop(Trip1 (F := F) c arg1 arg3 arg4 arg5 arg6 arg7 X1 X3 X4 G5 G6 G7
        ∗ (∀ acc, (Trip1 (F := F) c arg1 arg3 arg4 arg5 arg6 arg7 X1 X3 X4
            (ST (F := F) c i arg1 harg1 arg2 harg2 arg3 harg3 arg4 harg4 arg5 harg5 arg6 harg6 arg7 harg7 v3 X1 X3 X4 G5 G6 G7 k0_t1_loop.trips).1 (ST (F := F) c i arg1 harg1 arg2 harg2 arg3 harg3 arg4 harg4 arg5 harg5 arg6 harg6 arg7 harg7 v3 X1 X3 X4 G5 G6 G7 k0_t1_loop.trips).2.1 (ST (F := F) c i arg1 harg1 arg2 harg2 arg3 harg3 arg4 harg4 arg5 harg5 arg6 harg6 arg7 harg7 v3 X1 X3 X4 G5 G6 G7 k0_t1_loop.trips).2.2)
          -∗ wp frame (wpE (defs₀ (F := F)) 𝒱₀ (c : Thread nD τ) none) Set.univ (kk acc) Q))
      ⊢ wp frame (wpE (defs₀ (F := F)) 𝒱₀ (c : Thread nD τ) none) Set.univ
          (k0_t1_loop.for k0_t1_ok (0#32) (k0_t1_body (F := F) i arg1 harg1 arg2 harg2 arg3 harg3 arg4 harg4 arg5 harg5 arg6 harg6 arg7 harg7 v3) >>= kk) Q := by
  iintro ⟨⟨H1, H3, H4, H5, H6, H7⟩, Hk⟩
  iapply (Scf.wp_for_bind frame (wpE (defs₀ (F := F)) 𝒱₀ (c : Thread nD τ) none) Set.univ _ _ _ k0_t1_ok (0#32)
    (k0_t1_body (F := F) i arg1 harg1 arg2 harg2 arg3 harg3 arg4 harg4 arg5 harg5 arg6 harg6 arg7 harg7 v3) (inv1 (F := F) c i arg1 harg1 arg2 harg2 arg3 harg3 arg4 harg4 arg5 harg5 arg6 harg6 arg7 harg7 v3 X1 X3 X4 G5 G6 G7) (inv1_step (F := F) c i arg1 harg1 arg2 harg2 arg3 harg3 arg4 harg4 arg5 harg5 arg6 harg6 arg7 harg7 v3 X1 X3 X4 G5 G6 G7)) $$ [H1 H3 H4 H5 H6 H7]
  · unfold inv1
    isplitl [H1]; · iexact H1
    isplitl [H3]; · iexact H3
    isplitl [H4]; · iexact H4
    isplitl [H5]
    · iexists _; isplitl [H5]; · iexact H5
      ipureintro; rfl
    isplitl [H6]
    · iexists _; isplitl [H6]; · iexact H6
      ipureintro; rfl
    isplitl [H7]
    · iexists _; isplitl [H7]; · iexact H7
      ipureintro; rfl
    ipureintro; rfl
  · iintro %acc HI
    unfold inv1
    icases HI with ⟨H1, H3, H4, ⟨%f5, H5, %h5⟩, ⟨%f6, H6, %h6⟩, ⟨%f7, H7, %h7⟩, %hacc⟩
    subst h5 h6 h7
    iapply Hk
    isplitl [H1]; · iexact H1
    isplitl [H3]; · iexact H3
    isplitl [H4]; · iexact H4
    isplitl [H5]; · iexact H5
    isplitl [H6]; · iexact H6
    iexact H7

/-- The running panels at loop entry: the right-hand sides' block, as the body copies it. -/
def init5 (arg2 : Memref sig .tc .vmem S128x7680 .f32) (arg5 : Memref sig .tc .vmem S128x7680 .f32)
    (X2 : BufTy.Contents (Elt F) arg2.view.ty) : BufTy.Contents (Elt F) arg5.view.ty :=
  arg5.view.writes (Elt F) arg5.view.junk [⟨Rect.unit (s := S128x7680) ![0, 0] S128x7680.size inb_S128x7680_S128x7680_0_0,
    k0_pay1 (arg2.view.readAt (Elt F) (Rect.unit (s := S128x7680) ![0, 0] S128x7680.size inb_S128x7680_S128x7680_0_0).toLoadRect X2)⟩]

/-- The row scales at loop entry: zeros. -/
def init7 (arg7 : Memref sig .tc .vmem S128x128 .f32) : BufTy.Contents (Elt F) arg7.view.ty :=
  arg7.view.writes (Elt F) arg7.view.junk [⟨Rect.unit (s := S128x128) ![0, 0] S128x128.size inb_S128x128_S128x128_0_0, k0_pay2 (F := F)⟩]

/-- The lane numbers the scales' update compares with. -/
abbrev lanes : IVec S128x128 32 := iota .tc S128x128 32 [1] iota_S128x128_d1_w32

/-- THE BODY: from any contents of the windows' staging memrefs it runs to its return, leaving the inputs as they
    stand and the three results at `ST` after the last trip. -/
theorem kernelRun (c : Dev nD) (i : grid0.Coords) (arg1 : Memref sig .tc .smem S1770 .f32) (harg1 : arg1.IsWhole) (arg2 : Memref sig .tc .vmem S128x7680 .f32) (harg2 : arg2.IsWhole) (arg3 : Memref sig .tc .vmem S1770x128x128 .fp8e4m3) (harg3 : arg3.IsWhole) (arg4 : Memref sig .tc .vmem S60x128x128 .f32) (harg4 : arg4.IsWhole) (arg5 : Memref sig .tc .vmem S128x7680 .f32) (harg5 : arg5.IsWhole) (arg6 : Memref sig .tc .vmem S128x7680 .fp8e4m3) (harg6 : arg6.IsWhole) (arg7 : Memref sig .tc .vmem S128x128 .f32) (harg7 : arg7.IsWhole)
    (X1 : BufTy.Contents (Elt F) arg1.view.ty) (X3 : BufTy.Contents (Elt F) arg3.view.ty) (X4 : BufTy.Contents (Elt F) arg4.view.ty) (X2 : BufTy.Contents (Elt F) arg2.view.ty)
    (f5 : BufTy.Contents (Elt F) arg5.view.ty) (f6 : BufTy.Contents (Elt F) arg6.view.ty) (f7 : BufTy.Contents (Elt F) arg7.view.ty) (K : PUnit → sProp 𝕄) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
        ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7)
        ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
            ∗ (arg5.view.loc (c : Thread nD τ) ↦[arg5.view.set]{fullShare} (ST (F := F) c i arg1 harg1 arg2 harg2 arg3 harg3 arg4 harg4 arg5 harg5 arg6 harg6 arg7 harg7 lanes X1 X3 X4 (init5 arg2 arg5 X2) f6 (init7 arg7) k0_t1_loop.trips).1)
            ∗ (arg6.view.loc (c : Thread nD τ) ↦[arg6.view.set]{fullShare} (ST (F := F) c i arg1 harg1 arg2 harg2 arg3 harg3 arg4 harg4 arg5 harg5 arg6 harg6 arg7 harg7 lanes X1 X3 X4 (init5 arg2 arg5 X2) f6 (init7 arg7) k0_t1_loop.trips).2.1)
            ∗ (arg7.view.loc (c : Thread nD τ) ↦[arg7.view.set]{fullShare} (ST (F := F) c i arg1 harg1 arg2 harg2 arg3 harg3 arg4 harg4 arg5 harg5 arg6 harg6 arg7 harg7 lanes X1 X3 X4 (init5 arg2 arg5 X2) f6 (init7 arg7) k0_t1_loop.trips).2.2)) -∗ K ⟨⟩))
      ⊢ wp frame (wpE (defs₀ (F := F)) 𝒱₀ c none) Set.univ (cc0_fwd_subst i arg1 harg1 arg2 harg2 arg3 harg3 arg4 harg4 arg5 harg5 arg6 harg6 arg7 harg7) K := by
  simp only [cc0_fwd_subst_eq_skeleton]; unfold cc0_fwd_subst_skel
  iintro ⟨H1, H2, H3, H4, H5, H6, H7, Hk⟩
  sl_exec
  iapply (loopRun (F := F) c i arg1 harg1 arg2 harg2 arg3 harg3 arg4 harg4 arg5 harg5 arg6 harg6 arg7 harg7 _ X1 X3 X4)
  isplitl [H1 H3 H4 H5 H6 H7]
  · isplitl [H1]; · iexact H1
    isplitl [H3]; · iexact H3
    isplitl [H4]; · iexact H4
    isplitl [H5]; · iexact H5
    isplitl [H6]; · iexact H6
    iexact H7
  iintro %acc ⟨H1, H3, H4, H5, H6, H7⟩
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  iexact H7

end Cert.Proof.KernelIdeal

end
-- ==== Proof.KernelIdealFrame.lean ====
/-
  The frame of the forward substitution's pipeline (hand-written): from the body's triple, every execution runs to its
  end with the arguments unchanged and every semaphore back at zero. The three outputs are forgotten here: nothing reads
  what the body leaves in them. Generic in the float arithmetic.
-/
module

public import proofs.«01_k».proof.Proof.KernelIdealLoop
public import Idealize.ShloMosaic.Lib.Pipeline.Frame
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three outputs, forgotten. -/
def forgets : Fin 7 → Bool := ![false, false, false, false, true, true, true]

/-- The proof data on core `c`: the arrays as the region finds them; an input's buffer left at its block. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem fA_eq (c : Dev nD) (w : Fin cfg0.W) : (fdats m 0 c).A w = V m c (Pipeline.arrRef spec0 w) := by dsimp only [fdats]

def bodyPreF (c : Dev nD) (t : Fin cfg0.N) : sProp 𝕄 :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare ((fdats m 0 c).before 3 t d))
    ∗ (∃ d, owns (c : Thread nD τ) (st0_4 t) fullShare d)
    ∗ (∃ d, owns (c : Thread nD τ) (st0_5 t) fullShare d)
    ∗ (∃ d, owns (c : Thread nD τ) (st0_6 t) fullShare d))
def bodyPostF (c : Dev nD) (t : Fin cfg0.N) : sProp 𝕄 :=
  iprop((fdats m 0 c).Φ t.succ ∗ (fdats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ (∃ d, owns (c : Thread nD τ) (st0_4 t) fullShare d)
    ∗ (∃ d, owns (c : Thread nD τ) (st0_5 t) fullShare d)
    ∗ (∃ d, owns (c : Thread nD τ) (st0_6 t) fullShare d))

/-- The body at a point: the kernel's run between the windows' staging memrefs. -/
theorem sound_bodyF (c : Dev nD) (t : Fin cfg0.N) :
    bodyPreF m c t ⊢ wp frame (wpE (defs₀ (F := F)) 𝒱₀ c none) Set.univ (bodyAt0 t) (fun _ => bodyPostF m c t) := by
  unfold bodyPreF bodyPostF bodyAt0
  rw [show (fdats m 0 c).Φ t.succ = (fdats m 0 c).Φ t.castSucc from rfl,
    show (fdats m 0 c).owesAt () t.succ = (fdats m 0 c).owesAt () t.castSucc from rfl]
  have h0 := before0_0_of m (fdats m 0 c) (fA_eq m c 0) (fun _ => rfl) t
  have h1 := before0_1_of m (fdats m 0 c) (fA_eq m c 1) (fun _ => rfl) t
  have h2 := before0_2_of m (fdats m 0 c) (fA_eq m c 2) (fun _ => rfl) t
  have h3 := before0_3_of m (fdats m 0 c) (fA_eq m c 3) (fun _ => rfl) t
  simp only [h0, h1, h2, h3]
  unfold owns
  iintro ⟨HΦ, HO, ⟨%d0, %f0, %e0, H0⟩, ⟨%d1, %f1, %e1, H1⟩, ⟨%d2, %f2, %e2, H2⟩, ⟨%d3, %f3, %e3, H3⟩, ⟨%d4, %f4, -, H4⟩, ⟨%d5, %f5, -, H5⟩, ⟨%d6, %f6, -, H6⟩⟩
  iapply (kernelRun (F := F) c (grid0.coords t) (st0_0 t) _ (st0_1 t) _ (st0_2 t) _ (st0_3 t) _ (st0_4 t) _ (st0_5 t) _ (st0_6 t) _ f0 f2 f3 f1 f4 f5 f6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [HO]; · iexact HO
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists _, _; isplitr; swap; · iexact H4
    ipureintro; rfl
  isplitl [H5]
  · iexists _, _; isplitr; swap; · iexact H5
    ipureintro; rfl
  iexists _, _; isplitr; swap; · iexact H6
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligationF (c : Dev nD) :
    BodyObligation (fdats (F := F) m 0 c) (defs₀ (F := F)) 𝒱₀ () Set.univ forgets := fun t => by
  rw [bigSep_W0, bigSep_W0, defs₀_row]
  exact triple_restated (sound_bodyF m c t) rfl .rfl fun _ => .rfl

theorem shareF_eq (c : Dev nD) (w : Fin cfg0.W) : (fdats m 0 c).share w = fullShare := by
  unfold Dat.share; split <;> rfl

set_option backward.isDefEq.respectTransparency.types false in
/-- Every execution runs to its end, the arguments unchanged and every semaphore counter at zero. -/
theorem run_frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_forget cfgs (fdats m) (0 : Fin 1) launch0 defs₀ 𝒱₀ forgets m ρ main
    (fun c => (body_obligationF m c).loose) (shareF_eq m) (fun _ _ => rfl) (V m) (hmain m 𝒱₀) (fA_eq m) (fun _ _ => rfl)
    (Q' := _)
    (hQ' := fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)

end Cert.Proof.KernelIdeal

end
-- ==== Proof.ReferenceIdealLoop.lean ====
/-
  The reference's outer loop (hand-written): one trip of `k0_t1_loop` at a symbolic trip, run once by `sl_exec` (the
  inner sum over the earlier panels by its generated invariant), the loop's invariant, and the body's triple. Generic in
  the float arithmetic.
-/
module

public import proofs.«01_k».proof.Proof.Gen.ReferenceIdeal.Skeleton
public import proofs.«01_k».proof.Proof.Gen.ReferenceIdeal.Loops
public import proofs.«01_k».proof.Proof.Gen.ReferenceIdeal.Launch
public import proofs.«01_k».proof.Proof.Gen.ReferenceIdeal.Points
public import proofs.«01_k».proof.Proof.Gen.ReferenceIdeal.Frame

@[expose] public section

set_option maxRecDepth 16384
set_option maxHeartbeats 4000000

noncomputable section

namespace Cert.Proof.ReferenceIdeal

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev 𝒱₀ : Variants := Variants.none

local notation "𝕄" => MT nD τ sig Unit (Elt F) ℕ (UR sig nD τ) ℕ

/-- The lane numbers the scales' update compares with. -/
abbrev lanes : IVec S5120x128 32 := iota .tc S5120x128 32 [1] iota_S5120x128_d1_w32

/-- One trip's resources: the four arguments it reads, the three results it writes. -/
abbrev Trip1 (c : Dev nD) (arg0 : Memref sig .tc .vmem S5120x7680 .f32) (arg1 : Memref sig .tc .vmem S1770x128x128 .fp8e4m3) (arg2 : Memref sig .tc .smem S1x1770 .f32) (arg3 : Memref sig .tc .vmem S60x128x128 .f32) (arg4 : Memref sig .tc .vmem S5120x7680 .f32) (arg5 : Memref sig .tc .vmem S5120x7680 .fp8e4m3) (arg6 : Memref sig .tc .vmem S5120x128 .f32)
    (X0 : BufTy.Contents (Elt F) arg0.view.ty) (X1 : BufTy.Contents (Elt F) arg1.view.ty) (X2 : BufTy.Contents (Elt F) arg2.view.ty) (X3 : BufTy.Contents (Elt F) arg3.view.ty)
    (f4 : BufTy.Contents (Elt F) arg4.view.ty) (f5 : BufTy.Contents (Elt F) arg5.view.ty) (f6 : BufTy.Contents (Elt F) arg6.view.ty) : sProp 𝕄 :=
  iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6))

/-- ONE TRIP at a symbolic `k`: what it leaves in the three results, as functions of what it finds there. -/
@[irreducible] def trip1 (c : Dev nD) (arg0 : Memref sig .tc .vmem S5120x7680 .f32) (harg0 : arg0.IsWhole) (arg1 : Memref sig .tc .vmem S1770x128x128 .fp8e4m3) (harg1 : arg1.IsWhole) (arg2 : Memref sig .tc .smem S1x1770 .f32) (harg2 : arg2.IsWhole) (arg3 : Memref sig .tc .vmem S60x128x128 .f32) (harg3 : arg3.IsWhole) (arg4 : Memref sig .tc .vmem S5120x7680 .f32) (harg4 : arg4.IsWhole) (arg5 : Memref sig .tc .vmem S5120x7680 .fp8e4m3) (harg5 : arg5.IsWhole) (arg6 : Memref sig .tc .vmem S5120x128 .f32) (harg6 : arg6.IsWhole)
    (X0 : BufTy.Contents (Elt F) arg0.view.ty) (X1 : BufTy.Contents (Elt F) arg1.view.ty) (X2 : BufTy.Contents (Elt F) arg2.view.ty) (X3 : BufTy.Contents (Elt F) arg3.view.ty) (k : Fin k0_t1_loop.trips) :
    Σ' (N4 : BufTy.Contents (Elt F) arg4.view.ty → BufTy.Contents (Elt F) arg5.view.ty → BufTy.Contents (Elt F) arg6.view.ty → BufTy.Contents (Elt F) arg4.view.ty) (N5 : BufTy.Contents (Elt F) arg4.view.ty → BufTy.Contents (Elt F) arg5.view.ty → BufTy.Contents (Elt F) arg6.view.ty → BufTy.Contents (Elt F) arg5.view.ty),
      { N6 : BufTy.Contents (Elt F) arg4.view.ty → BufTy.Contents (Elt F) arg5.view.ty → BufTy.Contents (Elt F) arg6.view.ty → BufTy.Contents (Elt F) arg6.view.ty //
        ∀ (E : Set ℕ) (f4 : BufTy.Contents (Elt F) arg4.view.ty) (f5 : BufTy.Contents (Elt F) arg5.view.ty) (f6 : BufTy.Contents (Elt F) arg6.view.ty),
        Trip1 (F := F) c arg0 arg1 arg2 arg3 arg4 arg5 arg6 X0 X1 X2 X3 f4 f5 f6
        ⊢ wp frame (wpE (defs₀ (F := F)) 𝒱₀ (c : Thread nD τ) none) E
            (k0_t1_body (F := F) arg0 harg0 arg1 harg1 arg2 harg2 arg3 harg3 arg4 harg4 arg5 harg5 arg6 harg6 lanes k ())
            (fun _ => Trip1 (F := F) c arg0 arg1 arg2 arg3 arg4 arg5 arg6 X0 X1 X2 X3 (N4 f4 f5 f6) (N5 f4 f5 f6) (N6 f4 f5 f6)) } := by
  refine ⟨?_, ?_, ?_, fun E f4 f5 f6 => ?run⟩
  case run =>
    unfold k0_t1_body
    iintro ⟨H0, H1, H2, H3, H4, H5, H6⟩
    sl_exec
    sl_step
    sl_close

/-- What trip `k` leaves in the three results, from what it finds there. -/
@[irreducible] def stStep (c : Dev nD) (arg0 : Memref sig .tc .vmem S5120x7680 .f32) (harg0 : arg0.IsWhole) (arg1 : Memref sig .tc .vmem S1770x128x128 .fp8e4m3) (harg1 : arg1.IsWhole) (arg2 : Memref sig .tc .smem S1x1770 .f32) (harg2 : arg2.IsWhole) (arg3 : Memref sig .tc .vmem S60x128x128 .f32) (harg3 : arg3.IsWhole) (arg4 : Memref sig .tc .vmem S5120x7680 .f32) (harg4 : arg4.IsWhole) (arg5 : Memref sig .tc .vmem S5120x7680 .fp8e4m3) (harg5 : arg5.IsWhole) (arg6 : Memref sig .tc .vmem S5120x128 .f32) (harg6 : arg6.IsWhole)
    (X0 : BufTy.Contents (Elt F) arg0.view.ty) (X1 : BufTy.Contents (Elt F) arg1.view.ty) (X2 : BufTy.Contents (Elt F) arg2.view.ty) (X3 : BufTy.Contents (Elt F) arg3.view.ty) (k : ℕ) (s : BufTy.Contents (Elt F) arg4.view.ty × BufTy.Contents (Elt F) arg5.view.ty × BufTy.Contents (Elt F) arg6.view.ty) : BufTy.Contents (Elt F) arg4.view.ty × BufTy.Contents (Elt F) arg5.view.ty × BufTy.Contents (Elt F) arg6.view.ty :=
  if h : k < k0_t1_loop.trips then
    ((trip1 (F := F) c arg0 harg0 arg1 harg1 arg2 harg2 arg3 harg3 arg4 harg4 arg5 harg5 arg6 harg6 X0 X1 X2 X3 ⟨k, h⟩).1 s.1 s.2.1 s.2.2, (trip1 (F := F) c arg0 harg0 arg1 harg1 arg2 harg2 arg3 harg3 arg4 harg4 arg5 harg5 arg6 harg6 X0 X1 X2 X3 ⟨k, h⟩).2.1 s.1 s.2.1 s.2.2, (trip1 (F := F) c arg0 harg0 arg1 harg1 arg2 harg2 arg3 harg3 arg4 harg4 arg5 harg5 arg6 harg6 X0 X1 X2 X3 ⟨k, h⟩).2.2.1 s.1 s.2.1 s.2.2)
  else s

/-- The three results before trip `k`, from their contents at loop entry. -/
def ST (c : Dev nD) (arg0 : Memref sig .tc .vmem S5120x7680 .f32) (harg0 : arg0.IsWhole) (arg1 : Memref sig .tc .vmem S1770x128x128 .fp8e4m3) (harg1 : arg1.IsWhole) (arg2 : Memref sig .tc .smem S1x1770 .f32) (harg2 : arg2.IsWhole) (arg3 : Memref sig .tc .vmem S60x128x128 .f32) (harg3 : arg3.IsWhole) (arg4 : Memref sig .tc .vmem S5120x7680 .f32) (harg4 : arg4.IsWhole) (arg5 : Memref sig .tc .vmem S5120x7680 .fp8e4m3) (harg5 : arg5.IsWhole) (arg6 : Memref sig .tc .vmem S5120x128 .f32) (harg6 : arg6.IsWhole)
    (X0 : BufTy.Contents (Elt F) arg0.view.ty) (X1 : BufTy.Contents (Elt F) arg1.view.ty) (X2 : BufTy.Contents (Elt F) arg2.view.ty) (X3 : BufTy.Contents (Elt F) arg3.view.ty)
    (G4 : BufTy.Contents (Elt F) arg4.view.ty) (G5 : BufTy.Contents (Elt F) arg5.view.ty) (G6 : BufTy.Contents (Elt F) arg6.view.ty) : ℕ → BufTy.Contents (Elt F) arg4.view.ty × BufTy.Contents (Elt F) arg5.view.ty × BufTy.Contents (Elt F) arg6.view.ty
  | 0 => (G4, G5, G6)
  | k + 1 => stStep c arg0 harg0 arg1 harg1 arg2 harg2 arg3 harg3 arg4 harg4 arg5 harg5 arg6 harg6 X0 X1 X2 X3 k (ST c arg0 harg0 arg1 harg1 arg2 harg2 arg3 harg3 arg4 harg4 arg5 harg5 arg6 harg6 X0 X1 X2 X3 G4 G5 G6 k)

theorem ST_succ (c : Dev nD) (arg0 : Memref sig .tc .vmem S5120x7680 .f32) (harg0 : arg0.IsWhole) (arg1 : Memref sig .tc .vmem S1770x128x128 .fp8e4m3) (harg1 : arg1.IsWhole) (arg2 : Memref sig .tc .smem S1x1770 .f32) (harg2 : arg2.IsWhole) (arg3 : Memref sig .tc .vmem S60x128x128 .f32) (harg3 : arg3.IsWhole) (arg4 : Memref sig .tc .vmem S5120x7680 .f32) (harg4 : arg4.IsWhole) (arg5 : Memref sig .tc .vmem S5120x7680 .fp8e4m3) (harg5 : arg5.IsWhole) (arg6 : Memref sig .tc .vmem S5120x128 .f32) (harg6 : arg6.IsWhole)
    (X0 : BufTy.Contents (Elt F) arg0.view.ty) (X1 : BufTy.Contents (Elt F) arg1.view.ty) (X2 : BufTy.Contents (Elt F) arg2.view.ty) (X3 : BufTy.Contents (Elt F) arg3.view.ty)
    (G4 : BufTy.Contents (Elt F) arg4.view.ty) (G5 : BufTy.Contents (Elt F) arg5.view.ty) (G6 : BufTy.Contents (Elt F) arg6.view.ty) (k : Fin k0_t1_loop.trips) :
    ST (F := F) c arg0 harg0 arg1 harg1 arg2 harg2 arg3 harg3 arg4 harg4 arg5 harg5 arg6 harg6 X0 X1 X2 X3 G4 G5 G6 (k.val + 1)
      = ((trip1 (F := F) c arg0 harg0 arg1 harg1 arg2 harg2 arg3 harg3 arg4 harg4 arg5 harg5 arg6 harg6 X0 X1 X2 X3 k).1 (ST (F := F) c arg0 harg0 arg1 harg1 arg2 harg2 arg3 harg3 arg4 harg4 arg5 harg5 arg6 harg6 X0 X1 X2 X3 G4 G5 G6 k).1 (ST (F := F) c arg0 harg0 arg1 harg1 arg2 harg2 arg3 harg3 arg4 harg4 arg5 harg5 arg6 harg6 X0 X1 X2 X3 G4 G5 G6 k).2.1 (ST (F := F) c arg0 harg0 arg1 harg1 arg2 harg2 arg3 harg3 arg4 harg4 arg5 harg5 arg6 harg6 X0 X1 X2 X3 G4 G5 G6 k).2.2,
         (trip1 (F := F) c arg0 harg0 arg1 harg1 arg2 harg2 arg3 harg3 arg4 harg4 arg5 harg5 arg6 harg6 X0 X1 X2 X3 k).2.1 (ST (F := F) c arg0 harg0 arg1 harg1 arg2 harg2 arg3 harg3 arg4 harg4 arg5 harg5 arg6 harg6 X0 X1 X2 X3 G4 G5 G6 k).1 (ST (F := F) c arg0 harg0 arg1 harg1 arg2 harg2 arg3 harg3 arg4 harg4 arg5 harg5 arg6 harg6 X0 X1 X2 X3 G4 G5 G6 k).2.1 (ST (F := F) c arg0 harg0 arg1 harg1 arg2 harg2 arg3 harg3 arg4 harg4 arg5 harg5 arg6 harg6 X0 X1 X2 X3 G4 G5 G6 k).2.2,
         (trip1 (F := F) c arg0 harg0 arg1 harg1 arg2 harg2 arg3 harg3 arg4 harg4 arg5 harg5 arg6 harg6 X0 X1 X2 X3 k).2.2.1 (ST (F := F) c arg0 harg0 arg1 harg1 arg2 harg2 arg3 harg3 arg4 harg4 arg5 harg5 arg6 harg6 X0 X1 X2 X3 G4 G5 G6 k).1 (ST (F := F) c arg0 harg0 arg1 harg1 arg2 harg2 arg3 harg3 arg4 harg4 arg5 harg5 arg6 harg6 X0 X1 X2 X3 G4 G5 G6 k).2.1 (ST (F := F) c arg0 harg0 arg1 harg1 arg2 harg2 arg3 harg3 arg4 harg4 arg5 harg5 arg6 harg6 X0 X1 X2 X3 G4 G5 G6 k).2.2) := by
  rw [ST.eq_2]; unfold stStep; exact dif_pos k.isLt

/-- The outer loop's invariant: the arguments as they stand, the three results at `ST`. -/
def inv1 (c : Dev nD) (arg0 : Memref sig .tc .vmem S5120x7680 .f32) (harg0 : arg0.IsWhole) (arg1 : Memref sig .tc .vmem S1770x128x128 .fp8e4m3) (harg1 : arg1.IsWhole) (arg2 : Memref sig .tc .smem S1x1770 .f32) (harg2 : arg2.IsWhole) (arg3 : Memref sig .tc .vmem S60x128x128 .f32) (harg3 : arg3.IsWhole) (arg4 : Memref sig .tc .vmem S5120x7680 .f32) (harg4 : arg4.IsWhole) (arg5 : Memref sig .tc .vmem S5120x7680 .fp8e4m3) (harg5 : arg5.IsWhole) (arg6 : Memref sig .tc .vmem S5120x128 .f32) (harg6 : arg6.IsWhole)
    (X0 : BufTy.Contents (Elt F) arg0.view.ty) (X1 : BufTy.Contents (Elt F) arg1.view.ty) (X2 : BufTy.Contents (Elt F) arg2.view.ty) (X3 : BufTy.Contents (Elt F) arg3.view.ty)
    (G4 : BufTy.Contents (Elt F) arg4.view.ty) (G5 : BufTy.Contents (Elt F) arg5.view.ty) (G6 : BufTy.Contents (Elt F) arg6.view.ty) (k : ℕ) (_ : Unit) : sProp 𝕄 :=
  Trip1 (F := F) c arg0 arg1 arg2 arg3 arg4 arg5 arg6 X0 X1 X2 X3 (ST (F := F) c arg0 harg0 arg1 harg1 arg2 harg2 arg3 harg3 arg4 harg4 arg5 harg5 arg6 harg6 X0 X1 X2 X3 G4 G5 G6 k).1 (ST (F := F) c arg0 harg0 arg1 harg1 arg2 harg2 arg3 harg3 arg4 harg4 arg5 harg5 arg6 harg6 X0 X1 X2 X3 G4 G5 G6 k).2.1 (ST (F := F) c arg0 harg0 arg1 harg1 arg2 harg2 arg3 harg3 arg4 harg4 arg5 harg5 arg6 harg6 X0 X1 X2 X3 G4 G5 G6 k).2.2

/-- One trip takes the invariant to the next. -/
theorem inv1_step (c : Dev nD) (arg0 : Memref sig .tc .vmem S5120x7680 .f32) (harg0 : arg0.IsWhole) (arg1 : Memref sig .tc .vmem S1770x128x128 .fp8e4m3) (harg1 : arg1.IsWhole) (arg2 : Memref sig .tc .smem S1x1770 .f32) (harg2 : arg2.IsWhole) (arg3 : Memref sig .tc .vmem S60x128x128 .f32) (harg3 : arg3.IsWhole) (arg4 : Memref sig .tc .vmem S5120x7680 .f32) (harg4 : arg4.IsWhole) (arg5 : Memref sig .tc .vmem S5120x7680 .fp8e4m3) (harg5 : arg5.IsWhole) (arg6 : Memref sig .tc .vmem S5120x128 .f32) (harg6 : arg6.IsWhole)
    (X0 : BufTy.Contents (Elt F) arg0.view.ty) (X1 : BufTy.Contents (Elt F) arg1.view.ty) (X2 : BufTy.Contents (Elt F) arg2.view.ty) (X3 : BufTy.Contents (Elt F) arg3.view.ty)
    (G4 : BufTy.Contents (Elt F) arg4.view.ty) (G5 : BufTy.Contents (Elt F) arg5.view.ty) (G6 : BufTy.Contents (Elt F) arg6.view.ty) (k : Fin k0_t1_loop.trips) (acc : Unit) :
    inv1 (F := F) c arg0 harg0 arg1 harg1 arg2 harg2 arg3 harg3 arg4 harg4 arg5 harg5 arg6 harg6 X0 X1 X2 X3 G4 G5 G6 k acc ⊢ wp frame (wpE (defs₀ (F := F)) 𝒱₀ (c : Thread nD τ) none) Set.univ
      (k0_t1_body (F := F) arg0 harg0 arg1 harg1 arg2 harg2 arg3 harg3 arg4 harg4 arg5 harg5 arg6 harg6 lanes k acc) (inv1 (F := F) c arg0 harg0 arg1 harg1 arg2 harg2 arg3 harg3 arg4 harg4 arg5 harg5 arg6 harg6 X0 X1 X2 X3 G4 G5 G6 (k.val + 1)) := by
  unfold inv1
  rw [ST_succ]
  exact (trip1 (F := F) c arg0 harg0 arg1 harg1 arg2 harg2 arg3 harg3 arg4 harg4 arg5 harg5 arg6 harg6 X0 X1 X2 X3 k).2.2.2 Set.univ _ _ _

/-- The whole loop, whatever follows it. -/
theorem loopRun (c : Dev nD) (arg0 : Memref sig .tc .vmem S5120x7680 .f32) (harg0 : arg0.IsWhole) (arg1 : Memref sig .tc .vmem S1770x128x128 .fp8e4m3) (harg1 : arg1.IsWhole) (arg2 : Memref sig .tc .smem S1x1770 .f32) (harg2 : arg2.IsWhole) (arg3 : Memref sig .tc .vmem S60x128x128 .f32) (harg3 : arg3.IsWhole) (arg4 : Memref sig .tc .vmem S5120x7680 .f32) (harg4 : arg4.IsWhole) (arg5 : Memref sig .tc .vmem S5120x7680 .fp8e4m3) (harg5 : arg5.IsWhole) (arg6 : Memref sig .tc .vmem S5120x128 .f32) (harg6 : arg6.IsWhole)
    (X0 : BufTy.Contents (Elt F) arg0.view.ty) (X1 : BufTy.Contents (Elt F) arg1.view.ty) (X2 : BufTy.Contents (Elt F) arg2.view.ty) (X3 : BufTy.Contents (Elt F) arg3.view.ty)
    (G4 : BufTy.Contents (Elt F) arg4.view.ty) (G5 : BufTy.Contents (Elt F) arg5.view.ty) (G6 : BufTy.Contents (Elt F) arg6.view.ty)
    {β : Type} {kk : Unit → Prog (TpuEff nD τ sig (Elt F) Λ₀ .tc) β} {Q : β → sProp 𝕄} :
    iprop(Trip1 (F := F) c arg0 arg1 arg2 arg3 arg4 arg5 arg6 X0 X1 X2 X3 G4 G5 G6
        ∗ (∀ acc, (Trip1 (F := F) c arg0 arg1 arg2 arg3 arg4 arg5 arg6 X0 X1 X2 X3 (ST (F := F) c arg0 harg0 arg1 harg1 arg2 harg2 arg3 harg3 arg4 harg4 arg5 harg5 arg6 harg6 X0 X1 X2 X3 G4 G5 G6 k0_t1_loop.trips).1 (ST (F := F) c arg0 harg0 arg1 harg1 arg2 harg2 arg3 harg3 arg4 harg4 arg5 harg5 arg6 harg6 X0 X1 X2 X3 G4 G5 G6 k0_t1_loop.trips).2.1 (ST (F := F) c arg0 harg0 arg1 harg1 arg2 harg2 arg3 harg3 arg4 harg4 arg5 harg5 arg6 harg6 X0 X1 X2 X3 G4 G5 G6 k0_t1_loop.trips).2.2)
          -∗ wp frame (wpE (defs₀ (F := F)) 𝒱₀ (c : Thread nD τ) none) Set.univ (kk acc) Q))
      ⊢ wp frame (wpE (defs₀ (F := F)) 𝒱₀ (c : Thread nD τ) none) Set.univ
          (k0_t1_loop.for k0_t1_ok () (k0_t1_body (F := F) arg0 harg0 arg1 harg1 arg2 harg2 arg3 harg3 arg4 harg4 arg5 harg5 arg6 harg6 lanes) >>= kk) Q := by
  iintro ⟨H, Hk⟩
  iapply (Scf.wp_for_bind frame (wpE (defs₀ (F := F)) 𝒱₀ (c : Thread nD τ) none) Set.univ _ _ _ k0_t1_ok ()
    (k0_t1_body (F := F) arg0 harg0 arg1 harg1 arg2 harg2 arg3 harg3 arg4 harg4 arg5 harg5 arg6 harg6 lanes) (inv1 (F := F) c arg0 harg0 arg1 harg1 arg2 harg2 arg3 harg3 arg4 harg4 arg5 harg5 arg6 harg6 X0 X1 X2 X3 G4 G5 G6) (inv1_step (F := F) c arg0 harg0 arg1 harg1 arg2 harg2 arg3 harg3 arg4 harg4 arg5 harg5 arg6 harg6 X0 X1 X2 X3 G4 G5 G6)) $$ [H]
  · unfold inv1; rw [ST.eq_1]
    iexact H
  · unfold inv1
    iintro %acc HI
    iapply Hk
    iexact HI

/-- The row scales at loop entry: zeros. -/
def init6 (arg6 : Memref sig .tc .vmem S5120x128 .f32) : BufTy.Contents (Elt F) arg6.view.ty :=
  arg6.view.writes (Elt F) arg6.view.junk [⟨Rect.unit (s := S5120x128) ![0, 0] S5120x128.size inb_S5120x128_S5120x128_0_0, k0_pay1 (F := F)⟩]

/-- THE BODY: from any contents of the windows' staging memrefs it runs to its return, leaving the arguments as they
    stand and the three results at `ST` after the last trip. -/
theorem kernelRun (c : Dev nD) (arg0 : Memref sig .tc .vmem S5120x7680 .f32) (harg0 : arg0.IsWhole) (arg1 : Memref sig .tc .vmem S1770x128x128 .fp8e4m3) (harg1 : arg1.IsWhole) (arg2 : Memref sig .tc .smem S1x1770 .f32) (harg2 : arg2.IsWhole) (arg3 : Memref sig .tc .vmem S60x128x128 .f32) (harg3 : arg3.IsWhole) (arg4 : Memref sig .tc .vmem S5120x7680 .f32) (harg4 : arg4.IsWhole) (arg5 : Memref sig .tc .vmem S5120x7680 .fp8e4m3) (harg5 : arg5.IsWhole) (arg6 : Memref sig .tc .vmem S5120x128 .f32) (harg6 : arg6.IsWhole)
    (X0 : BufTy.Contents (Elt F) arg0.view.ty) (X1 : BufTy.Contents (Elt F) arg1.view.ty) (X2 : BufTy.Contents (Elt F) arg2.view.ty) (X3 : BufTy.Contents (Elt F) arg3.view.ty)
    (f4 : BufTy.Contents (Elt F) arg4.view.ty) (f5 : BufTy.Contents (Elt F) arg5.view.ty) (f6 : BufTy.Contents (Elt F) arg6.view.ty) (K : PUnit → sProp 𝕄) :
    iprop(Trip1 (F := F) c arg0 arg1 arg2 arg3 arg4 arg5 arg6 X0 X1 X2 X3 f4 f5 f6
        ∗ ((Trip1 (F := F) c arg0 arg1 arg2 arg3 arg4 arg5 arg6 X0 X1 X2 X3 (ST (F := F) c arg0 harg0 arg1 harg1 arg2 harg2 arg3 harg3 arg4 harg4 arg5 harg5 arg6 harg6 X0 X1 X2 X3 f4 f5 (init6 arg6) k0_t1_loop.trips).1 (ST (F := F) c arg0 harg0 arg1 harg1 arg2 harg2 arg3 harg3 arg4 harg4 arg5 harg5 arg6 harg6 X0 X1 X2 X3 f4 f5 (init6 arg6) k0_t1_loop.trips).2.1 (ST (F := F) c arg0 harg0 arg1 harg1 arg2 harg2 arg3 harg3 arg4 harg4 arg5 harg5 arg6 harg6 X0 X1 X2 X3 f4 f5 (init6 arg6) k0_t1_loop.trips).2.2) -∗ K ⟨⟩))
      ⊢ wp frame (wpE (defs₀ (F := F)) 𝒱₀ c none) Set.univ (cc0__reference_body arg0 harg0 arg1 harg1 arg2 harg2 arg3 harg3 arg4 harg4 arg5 harg5 arg6 harg6) K := by
  simp only [cc0__reference_body_eq_skeleton]; unfold cc0__reference_body_skel
  iintro ⟨⟨H0, H1, H2, H3, H4, H5, H6⟩, Hk⟩
  sl_exec
  iapply (loopRun (F := F) c arg0 harg0 arg1 harg1 arg2 harg2 arg3 harg3 arg4 harg4 arg5 harg5 arg6 harg6 X0 X1 X2 X3)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro %acc ⟨H0, H1, H2, H3, H4, H5, H6⟩
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  iexact H6

end Cert.Proof.ReferenceIdeal

end
-- ==== Proof.ReferenceIdealFrame.lean ====
/-
  The reference's frame (hand-written): from the body's triple, every execution runs to its
  end with the arguments unchanged and every semaphore back at zero. The three outputs are forgotten here: nothing reads
  what the body leaves in them. Generic in the float arithmetic.
-/
module

public import proofs.«01_k».proof.Proof.ReferenceIdealLoop
public import Idealize.ShloMosaic.Lib.Pipeline.Frame
public import Idealize.ShloMosaic.Lib.Tactic

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three outputs, forgotten. -/
def forgets : Fin 7 → Bool := ![false, false, false, false, true, true, true]

/-- The proof data on core `c`: the arrays as the region finds them; an input's buffer left at its block. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem fA_eq (c : Dev nD) (w : Fin cfg0.W) : (fdats m 0 c).A w = V m c (Pipeline.arrRef spec0 w) := by dsimp only [fdats]

def bodyPreF (c : Dev nD) (t : Fin cfg0.N) : sProp 𝕄 :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare ((fdats m 0 c).before 3 t d))
    ∗ (∃ d, owns (c : Thread nD τ) (st0_4 t) fullShare d)
    ∗ (∃ d, owns (c : Thread nD τ) (st0_5 t) fullShare d)
    ∗ (∃ d, owns (c : Thread nD τ) (st0_6 t) fullShare d))
def bodyPostF (c : Dev nD) (t : Fin cfg0.N) : sProp 𝕄 :=
  iprop((fdats m 0 c).Φ t.succ ∗ (fdats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ (∃ d, owns (c : Thread nD τ) (st0_4 t) fullShare d)
    ∗ (∃ d, owns (c : Thread nD τ) (st0_5 t) fullShare d)
    ∗ (∃ d, owns (c : Thread nD τ) (st0_6 t) fullShare d))

/-- The body at a point: the kernel's run between the windows' staging memrefs. -/
theorem sound_bodyF (c : Dev nD) (t : Fin cfg0.N) :
    bodyPreF m c t ⊢ wp frame (wpE (defs₀ (F := F)) 𝒱₀ c none) Set.univ (bodyAt0 t) (fun _ => bodyPostF m c t) := by
  unfold bodyPreF bodyPostF bodyAt0
  rw [show (fdats m 0 c).Φ t.succ = (fdats m 0 c).Φ t.castSucc from rfl,
    show (fdats m 0 c).owesAt () t.succ = (fdats m 0 c).owesAt () t.castSucc from rfl]
  have h0 := before0_0_of m (fdats m 0 c) (fA_eq m c 0) (fun _ => rfl) t
  have h1 := before0_1_of m (fdats m 0 c) (fA_eq m c 1) (fun _ => rfl) t
  have h2 := before0_2_of m (fdats m 0 c) (fA_eq m c 2) (fun _ => rfl) t
  have h3 := before0_3_of m (fdats m 0 c) (fA_eq m c 3) (fun _ => rfl) t
  simp only [h0, h1, h2, h3]
  unfold owns
  iintro ⟨HΦ, HO, ⟨%d0, %f0, %e0, H0⟩, ⟨%d1, %f1, %e1, H1⟩, ⟨%d2, %f2, %e2, H2⟩, ⟨%d3, %f3, %e3, H3⟩, ⟨%d4, %f4, -, H4⟩, ⟨%d5, %f5, -, H5⟩, ⟨%d6, %f6, -, H6⟩⟩
  iapply (kernelRun (F := F) c (st0_0 t) _ (st0_1 t) _ (st0_2 t) _ (st0_3 t) _ (st0_4 t) _ (st0_5 t) _ (st0_6 t) _ f0 f1 f2 f3 f4 f5 f6 _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [HO]; · iexact HO
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists _, _; isplitr; swap; · iexact H4
    ipureintro; rfl
  isplitl [H5]
  · iexists _, _; isplitr; swap; · iexact H5
    ipureintro; rfl
  iexists _, _; isplitr; swap; · iexact H6
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligationF (c : Dev nD) :
    BodyObligation (fdats (F := F) m 0 c) (defs₀ (F := F)) 𝒱₀ () Set.univ forgets := fun t => by
  rw [bigSep_W0, bigSep_W0, defs₀_row]
  exact triple_restated (sound_bodyF m c t) rfl .rfl fun _ => .rfl

theorem shareF_eq (c : Dev nD) (w : Fin cfg0.W) : (fdats m 0 c).share w = fullShare := by
  unfold Dat.share; split <;> rfl

set_option backward.isDefEq.respectTransparency.types false in
/-- Every execution runs to its end, the arguments unchanged and every semaphore counter at zero. -/
theorem run_frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_forget cfgs (fdats m) (0 : Fin 1) launch0 defs₀ 𝒱₀ forgets m ρ main
    (fun c => (body_obligationF m c).loose) (shareF_eq m) (fun _ _ => rfl) (V m) (hmain m 𝒱₀) (fA_eq m) (fun _ _ => rfl)
    (Q' := _)
    (hQ' := fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 2 rfl).trans ((fA_eq m c 2).trans (V_main_arg2 m c)),
      ((h.1 c).2 main_arg3 (Pipeline.mem_restRefs_of main_arg3 (by decide) (by decide))).trans (V_main_arg3 m c)⟩, h.2⟩)

end Cert.Proof.ReferenceIdeal

end
-- ==== Proof.Scale.lean ====
/-
  The row scale as a function of the row's scaled largest magnitude (hand-written). Two spellings of one function: the
  kernel searches the exponent field of `y` bit by bit, comparing `y` with powers of two given by their words, and builds
  the words of the scale and of its inverse from that field; the reference takes the floor of the base-two logarithm.
-/
module

public import Idealize.ShloMosaic.PureOps.Ideal

@[expose] public section

noncomputable section

namespace Cert.Proof.Scale

open Idealize.ShloMosaic

/-- The power of two of exponent `k`, as an extended real. -/
def pow2 (k : ℤ) : EReal := (((2 : ℝ) ^ k : ℝ) : EReal)

theorem pow2_le {a b : ℤ} (h : a ≤ b) : pow2 a ≤ pow2 b :=
  EReal.coe_le_coe_iff.mpr (zpow_le_zpow_right₀ (by norm_num) h)

/-- The sign, the exponent and the fraction of the word with field `u`. -/
theorem field_parts : ∀ u : Fin 255,
    (IntOp.shli .vector (BitVec.ofNat 32 u.val) 23#32).extractLsb' 31 1 = 0#1
      ∧ ((IntOp.shli .vector (BitVec.ofNat 32 u.val) 23#32).extractLsb' 23 8).toNat = u.val
      ∧ ((IntOp.shli .vector (BitVec.ofNat 32 u.val) 23#32).extractLsb' 0 23).toNat = 0 := by decide +kernel

/-- A word by its three parts: no sign, exponent `u`, no fraction. -/
theorem ieee_field (w : BitVec 32) (u : ℕ) (h1 : 1 ≤ u) (h2 : u ≤ 254) (e1 : w.extractLsb' 31 1 = 0#1)
    (e2 : (w.extractLsb' 23 8).toNat = u) (e3 : (w.extractLsb' 0 23).toNat = 0) : Ideal.ieee 8 23 w = pow2 ((u : ℤ) - 127) := by
  unfold Ideal.ieee pow2
  simp only [Nat.reduceAdd, e1, e2, e3]
  rw [if_neg (by omega), if_neg (by omega)]
  congr 1
  have e : ((u : ℤ) - 127) = 23 + ((u : ℤ) - (2 ^ (8 - 1) - 1) - 23) := by norm_num
  rw [e, zpow_add₀ (by norm_num : (2 : ℝ) ≠ 0)]
  norm_num

/-- The word with exponent field `u` and nothing else is the power of two of exponent `u - 127`. -/
theorem ofBits_field (u : ℕ) (h1 : 1 ≤ u) (h2 : u ≤ 254) :
    Ideal.ofBits .f32 (IntOp.shli .vector (BitVec.ofNat 32 u) 23#32) = pow2 ((u : ℤ) - 127) := by
  obtain ⟨e1, e2, e3⟩ := field_parts ⟨u, by omega⟩
  exact ieee_field _ u h1 h2 e1 e2 e3

/-- One step of the search: the field raised by `s` where that stays in range and `y` reaches that power of two. -/
def stepUp (y : EReal) (v s : BitVec 32) : BitVec 32 :=
  Scalar.select (IntOp.andi (IntOp.cmpi .sle (IntOp.addi v s) 246#32)
    (Ideal.cmp .oge y (Ideal.ofBits .f32 (IntOp.shli .vector (IntOp.addi v s) 23#32)))) (IntOp.addi v s) v

/-- The exponent field of `y`, at most 246. -/
def fieldW (y : EReal) : BitVec 32 :=
  stepUp y (stepUp y (stepUp y (stepUp y (stepUp y (stepUp y (stepUp y (stepUp y 0#32 128#32) 64#32) 32#32) 16#32) 8#32) 4#32) 2#32) 1#32

/-- The search keeps: `n` is in range, `y` reaches the power of field `n`, and does not reach that of field `m`. -/
def Inv (y : EReal) (n m : ℕ) : Prop := n ≤ 246 ∧ (n = 0 ∨ pow2 ((n : ℤ) - 127) ≤ y) ∧ (246 < m ∨ y < pow2 ((m : ℤ) - 127))

theorem sle_246 : ∀ u : Fin 512, IntOp.cmpi .sle (BitVec.ofNat 32 u.val) 246#32 = if u.val ≤ 246 then 1#1 else 0#1 := by
  decide +kernel

theorem cmp_oge_pos {x y : EReal} (h : y ≤ x) : Ideal.cmp .oge x y = 1#1 := by
  show BitVec.ofBool (decide (y ≤ x)) = _
  rw [decide_eq_true h]; rfl

theorem cmp_oge_neg {x y : EReal} (h : ¬ y ≤ x) : Ideal.cmp .oge x y = 0#1 := by
  show BitVec.ofBool (decide (y ≤ x)) = _
  rw [decide_eq_false h]; rfl

theorem stepUp_spec (y : EReal) (n s : ℕ) (hs : 1 ≤ s) (hs' : s ≤ 128) (h : Inv y n (n + 2 * s)) :
    ∃ n', stepUp y (BitVec.ofNat 32 n) (BitVec.ofNat 32 s) = BitVec.ofNat 32 n' ∧ Inv y n' (n' + s) := by
  obtain ⟨h1, h2, h3⟩ := h
  have hadd : IntOp.addi (BitVec.ofNat 32 n) (BitVec.ofNat 32 s) = BitVec.ofNat 32 (n + s) := (BitVec.ofNat_add n s).symm
  unfold stepUp
  rw [hadd, sle_246 ⟨n + s, by omega⟩]
  by_cases hu : n + s ≤ 246
  · rw [if_pos hu, ofBits_field (n + s) (by omega) (by omega)]
    by_cases hy : pow2 (((n + s : ℕ) : ℤ) - 127) ≤ y
    · refine ⟨n + s, ?_, hu, Or.inr hy, ?_⟩
      · rw [cmp_oge_pos hy]; rfl
      · rw [show n + s + s = n + 2 * s by omega]; exact h3
    · refine ⟨n, ?_, h1, h2, Or.inr (not_le.mp hy)⟩
      rw [cmp_oge_neg hy]; rfl
  · refine ⟨n, ?_, h1, h2, Or.inl (by omega)⟩
    rw [if_neg hu]
    simp [IntOp.andi, Scalar.select]

/-- The field found: `y` lies between its power of two and the next, except at the two ends. -/
theorem fieldW_spec (y : EReal) : ∃ n, fieldW y = BitVec.ofNat 32 n ∧ Inv y n (n + 1) := by
  have h0 : Inv y 0 (0 + 2 * 128) := ⟨by omega, Or.inl rfl, Or.inl (by omega)⟩
  obtain ⟨n1, e1, h1⟩ := stepUp_spec y 0 128 (by omega) (by omega) h0
  obtain ⟨n2, e2, h2⟩ := stepUp_spec y n1 64 (by omega) (by omega) h1
  obtain ⟨n3, e3, h3⟩ := stepUp_spec y n2 32 (by omega) (by omega) h2
  obtain ⟨n4, e4, h4⟩ := stepUp_spec y n3 16 (by omega) (by omega) h3
  obtain ⟨n5, e5, h5⟩ := stepUp_spec y n4 8 (by omega) (by omega) h4
  obtain ⟨n6, e6, h6⟩ := stepUp_spec y n5 4 (by omega) (by omega) h5
  obtain ⟨n7, e7, h7⟩ := stepUp_spec y n6 2 (by omega) (by omega) h6
  obtain ⟨n8, e8, h8⟩ := stepUp_spec y n7 1 (by omega) (by omega) h7
  refine ⟨n8, ?_, h8⟩
  unfold fieldW
  rw [show (0#32 : BitVec 32) = BitVec.ofNat 32 0 from rfl, e1, e2, e3, e4, e5, e6, e7, e8]

/-- The word of the power of two the search finds, zero below the least normal number. -/
def bitsW (y : EReal) : BitVec 32 := IntOp.shli .vector (fieldW y) 23#32

/-- The kernel's scale: twice that power of two, one where the word is zero. -/
def kScale (y : EReal) : EReal :=
  Ideal.ofBits .f32 (Scalar.select (IntOp.cmpi .eq (bitsW y) 0#32) 1065353216#32 (IntOp.addi (bitsW y) 8388608#32))

/-- The kernel's inverse scale. -/
def kInv (y : EReal) : EReal :=
  Ideal.ofBits .f32 (Scalar.select (IntOp.cmpi .eq (bitsW y) 0#32) 1065353216#32 (IntOp.subi 2122317824#32 (bitsW y)))

/-- The reference's exponent of the scale: one more than the floor of the base-two logarithm, at most 120, zero below the
    least normal number. -/
def expo (y : EReal) : EReal :=
  Scalar.select (Ideal.cmp .olt y (Ideal.ofBits .f32 0x00800000#32)) (Ideal.ofBits .f32 0x00000000#32)
    (min (Ideal.liftRound Int.floor (Ideal.div (Ideal.log y) (Ideal.log (Ideal.ofBits .f32 0x40000000#32))) + Ideal.ofBits .f32 0x3F800000#32)
      (Ideal.ofBits .f32 0x42F00000#32))

/-- The reference's scale … -/
def scale (y : EReal) : EReal := Ideal.exp2 (expo y)
/-- … and its inverse. -/
def inv (y : EReal) : EReal := Ideal.exp2 (Ideal.ofBits .f32 0x00000000#32 - expo y)

theorem ofBits_zero : Ideal.ofBits .f32 0x00000000#32 = 0 := by
  simp [Ideal.ofBits, Ideal.ieee, -EReal.coe_mul]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_120 : Ideal.ofBits .f32 0x42F00000#32 = ((120 : ℝ) : EReal) := by
  simp [Ideal.ofBits, Ideal.ieee, -EReal.coe_mul]; norm_num
theorem ofBits_tiny : Ideal.ofBits .f32 0x00800000#32 = pow2 (-126) := ofBits_field 1 (by omega) (by omega)

/-- An integer exponent's scale. -/
theorem exp2_int (k : ℤ) : Ideal.exp2 (((k : ℤ) : ℝ) : EReal) = pow2 k := by
  show ((Real.rpow 2 k : ℝ) : EReal) = _
  unfold pow2; congr 1
  exact Real.rpow_intCast 2 k

/-- The words of the scale and of the inverse, by the field. -/
theorem words_of_field : ∀ n : Fin 247,
    Scalar.select (IntOp.cmpi .eq (IntOp.shli .vector (BitVec.ofNat 32 n.val) 23#32) 0#32) 1065353216#32
        (IntOp.addi (IntOp.shli .vector (BitVec.ofNat 32 n.val) 23#32) 8388608#32)
      = IntOp.shli .vector (BitVec.ofNat 32 (if n.val = 0 then 127 else n.val + 1)) 23#32
    ∧ Scalar.select (IntOp.cmpi .eq (IntOp.shli .vector (BitVec.ofNat 32 n.val) 23#32) 0#32) 1065353216#32
        (IntOp.subi 2122317824#32 (IntOp.shli .vector (BitVec.ofNat 32 n.val) 23#32))
      = IntOp.shli .vector (BitVec.ofNat 32 (if n.val = 0 then 127 else 253 - n.val)) 23#32 := by decide +kernel

/-- The exponent by the field. -/
theorem expo_of_field (y : EReal) (n : ℕ) (h : Inv y n (n + 1)) : expo y = (((if n = 0 then 0 else (n : ℤ) - 126 : ℤ) : ℝ) : EReal) := by
  obtain ⟨h1, h2, h3⟩ := h
  unfold expo
  rw [ofBits_tiny, ofBits_zero, ofBits_one, ofBits_two, ofBits_120]
  by_cases hn : n = 0
  · subst hn
    have hy : y < pow2 (-126) := by rcases h3 with h3 | h3; · omega
                                    · simpa using h3
    simp [Ideal.cmp, hy, Scalar.select]
  have hle : pow2 ((n : ℤ) - 127) ≤ y := h2.resolve_left hn
  have hy : ¬ y < pow2 (-126) := not_lt.mpr ((pow2_le (by omega)).trans hle)
  rw [if_neg hn]
  have hsel : Ideal.cmp .olt y (pow2 (-126)) = 0#1 := by simp [Ideal.cmp, hy]
  rw [hsel]
  show min _ _ = _
  have hlog2 : Ideal.log ((2 : ℝ) : EReal) = ((Real.log 2 : ℝ) : EReal) := by
    show (if (2 : ℝ) ≤ 0 then (⊥ : EReal) else (Real.log 2 : EReal)) = _
    rw [if_neg (by norm_num)]
  have hl2 : (0 : ℝ) < Real.log 2 := Real.log_pos (by norm_num)
  rw [hlog2, Ideal.div_coe hl2.ne']
  induction y using EReal.rec with
  | bot => exact absurd hle (by simp [pow2])
  | top =>
    have : n = 246 := by
      rcases h3 with h3 | h3
      · omega
      · exact absurd h3 (by simp)
    subst this
    have e : Ideal.log ⊤ * ((1 / Real.log 2 : ℝ) : EReal) = ⊤ := by
      show (⊤ : EReal) * _ = _
      exact EReal.top_mul_coe_of_pos (by positivity)
    rw [e, Ideal.liftRound_top, EReal.top_add_coe, min_eq_right le_top]
    norm_num
  | coe r =>
    have hr : (2 : ℝ) ^ ((n : ℤ) - 127) ≤ r := EReal.coe_le_coe_iff.mp hle
    have hr0 : 0 < r := lt_of_lt_of_le (by positivity) hr
    have e : Ideal.log (r : EReal) = ((Real.log r : ℝ) : EReal) := by
      show (if r ≤ 0 then (⊥ : EReal) else (Real.log r : EReal)) = _
      rw [if_neg (not_le.mpr hr0)]
    rw [e, ← EReal.coe_mul, Ideal.liftRound_coe, ← EReal.coe_add, ← EReal.coe_strictMono.monotone.map_min]
    congr 1
    have hlow : ((n : ℤ) - 127 : ℤ) ≤ ⌊Real.log r * (1 / Real.log 2)⌋ := by
      rw [Int.le_floor, mul_one_div, le_div_iff₀ hl2, ← Real.log_zpow]
      exact Real.log_le_log (by positivity) hr
    by_cases h246 : n = 246
    · subst h246
      rw [min_eq_right]
      · norm_num
      · have : ((119 : ℤ) : ℝ) ≤ ((⌊Real.log r * (1 / Real.log 2)⌋ : ℤ) : ℝ) := by
          exact_mod_cast (by simpa using hlow : (119 : ℤ) ≤ _)
        push_cast at this; linarith
    · have hlt : r < (2 : ℝ) ^ ((n : ℤ) - 126) := by
        rcases h3 with h3 | h3
        · omega
        · have := EReal.coe_lt_coe_iff.mp h3
          rwa [show (((n + 1 : ℕ) : ℤ) - 127) = (n : ℤ) - 126 by push_cast; ring] at this
      have hhigh : ⌊Real.log r * (1 / Real.log 2)⌋ < (n : ℤ) - 126 := by
        rw [Int.floor_lt, mul_one_div, div_lt_iff₀ hl2, ← Real.log_zpow]
        exact Real.log_lt_log hr0 hlt
      have hfl : ⌊Real.log r * (1 / Real.log 2)⌋ = (n : ℤ) - 127 := by omega
      rw [hfl, min_eq_left]
      · push_cast; ring
      · have : (n : ℝ) ≤ 246 := by exact_mod_cast h1
        push_cast; linarith

/-- The two scales agree. -/
theorem kScale_eq (y : EReal) : kScale y = scale y := by
  obtain ⟨n, e, h⟩ := fieldW_spec y
  have hn := h.1
  unfold kScale bitsW scale
  rw [e, (words_of_field ⟨n, by omega⟩).1, expo_of_field y n h, exp2_int]
  by_cases h0 : n = 0
  · subst h0; exact ofBits_field 127 (by omega) (by omega)
  · rw [if_neg h0, if_neg h0, ofBits_field _ (by omega) (by omega)]
    congr 1; push_cast; ring

/-- The two inverses agree. -/
theorem kInv_eq (y : EReal) : kInv y = inv y := by
  obtain ⟨n, e, h⟩ := fieldW_spec y
  have hn := h.1
  unfold kInv bitsW inv
  rw [e, (words_of_field ⟨n, by omega⟩).2, expo_of_field y n h, ofBits_zero, zero_sub, ← EReal.coe_neg, ← Int.cast_neg, exp2_int]
  by_cases h0 : n = 0
  · subst h0; exact ofBits_field 127 (by omega) (by omega)
  · rw [if_neg h0, if_neg h0, ofBits_field _ (by omega) (by omega)]
    congr 1
    show (((253 - n : ℕ) : ℤ)) - 127 = -((n : ℤ) - 126)
    omega

end Cert.Proof.Scale

end
-- ==== Proof.Spec.lean ====
/-
  The forward substitution of one row, as extended reals (hand-written): what both programs compute. A row is 60 panels of
  128 columns; panel `i` of the solution is the panel's right-hand side, less the contributions of the panels before it,
  times the inverse of diagonal block `i`. The contribution of a solved panel is that of its codes, rescaled.
-/
module

public import proofs.«01_k».proof.Proof.Scale
public import Idealize.ShloMosaic.Lib.Pointwise

@[expose] public section

noncomputable section

namespace Cert.Proof.Spec

open Idealize.ShloMosaic Cert.Proof
open scoped BigOperators

/-- The number of the tile of block row `i` and block column `j`. -/
def tileNo (j i : ℕ) : ℕ := j * 60 - j * (j + 1) / 2 + (i - 1 - j)

/-- A panel's largest magnitude over 448. -/
def amax (x : Fin 128 → EReal) : EReal :=
  (Finset.univ : Finset (Fin 128)).fold max (Ideal.ofBits .f32 0xFF800000#32) (fun n => max (x n) (-(x n))) * Ideal.ofBits .f32 0x3B124925#32

/-- A panel's codes. -/
def code (x : Fin 128 → EReal) (n : Fin 128) : EReal :=
  min (Ideal.ofBits .f32 0x43E00000#32) (max (Ideal.ofBits .f32 0xC3E00000#32) (x n * Scale.inv (amax x)))

/-- A panel's scale. -/
def sc (x : Fin 128 → EReal) : EReal := Scale.scale (amax x)

section Row

variable (b : ℕ → Fin 128 → EReal) (L : ℕ → Fin 128 → Fin 128 → EReal) (s : ℕ → EReal) (W : ℕ → Fin 128 → Fin 128 → EReal)

/-- What a solved panel `x` takes off a later one through tile `t`. -/
def upd (x : Fin 128 → EReal) (t : ℕ) (n : Fin 128) : EReal := ((∑ k, code x k * L t n k) * s t) * sc x

/-- Panel `i` of the solution. -/
def X (i : ℕ) : Fin 128 → EReal := fun n =>
  ∑ k, (b i k + ∑ j : Fin i, -(upd L s (X j.val) (tileNo j.val i) k)) * W i n k
termination_by i
decreasing_by exact j.isLt

/-- Panel `p` less the contributions of the first `k` panels. -/
def R (p k : ℕ) (n : Fin 128) : EReal := b p n + ∑ j : Fin k, -(upd L s (X b L s W j.val) (tileNo j.val p) n)

theorem X_eq (i : ℕ) (n : Fin 128) : X b L s W i n = ∑ k, R b L s W i i k * W i n k := by
  rw [X]; rfl

theorem R_zero (p : ℕ) (n : Fin 128) : R b L s W p 0 n = b p n := by
  unfold R; simp

theorem R_succ (p k : ℕ) (n : Fin 128) :
    R b L s W p (k + 1) n = R b L s W p k n + -(upd L s (X b L s W k) (tileNo k p) n) := by
  unfold R
  rw [Fin.sum_univ_castSucc, ← add_assoc]; rfl

/-- A row of the solution, of its codes and of its scales, by column. -/
def rowX (j : Fin 7680) : EReal := X b L s W (j.val / 128) ⟨j.val % 128, Nat.mod_lt _ (by omega)⟩
def rowC (j : Fin 7680) : EReal := code (X b L s W (j.val / 128)) ⟨j.val % 128, Nat.mod_lt _ (by omega)⟩
def rowS (l : Fin 128) : EReal := if l.val < 60 then sc (X b L s W l.val) else 0

end Row

end Cert.Proof.Spec

end
-- ==== Proof.KernelIdealPay.lean ====
/-
  The kernel body's stored values at an index, at the exact arithmetic (hand-written).
-/
module

public import proofs.«01_k».proof.Proof.Gen.KernelIdeal.Skeleton
public import proofs.«01_k».proof.Proof.Spec
public import Idealize.ShloMosaic.Lib.Pointwise

@[expose] public section

set_option maxRecDepth 16384

noncomputable section

namespace Cert.Proof.KernelIdeal

open Cert.KernelIdeal Cert.KernelIdeal.Gen Cert.Proof
open Idealize.ShloMosaic Idealize.ShloMosaic.TcCoe

/-- A solved panel: the running panel times the inverse of the diagonal block. -/
theorem pay5_apply (v11 : Vec Ideal S128x128 .f32) (v14 : Vec Ideal S1x128x128 .f32) (r n : Fin 128) :
    k0_pay5 (F := Ideal) v11 v14 (ix2 r n) = ∑ k : Fin 128, v11 (ix2 r k) * v14 (ix3 (0 : Fin 1) n k) := by
  unfold k0_pay5
  pointwise

/-- A row's largest magnitude over 448. -/
theorem pay6_apply (v11 : Vec Ideal S128x128 .f32) (v14 : Vec Ideal S1x128x128 .f32) (r : Fin 128) :
    k0_pay6 (F := Ideal) v11 v14 (ix2 r (0 : Fin 1)) = Spec.amax (fun n => k0_pay5 (F := Ideal) v11 v14 (ix2 r n)) := by
  unfold k0_pay6 Spec.amax
  pointwise
  rfl

section
variable (v11 : Vec Ideal S128x128 .f32) (v14 : Vec Ideal S1x128x128 .f32)

abbrev p92 : IVec S128x1 32 := k0_pay11 (F := Ideal) (k0_pay6 v11 v14) (k0_pay7 v11 v14) (k0_pay8 v11 v14) (k0_pay9 v11 v14) k0_pay10
abbrev p94 : IVec S128x1 32 := k0_pay12 (F := Ideal) (k0_pay6 v11 v14) (k0_pay7 v11 v14) (k0_pay8 v11 v14) (k0_pay9 v11 v14) k0_pay10

/-- One step of the search for the exponent field, on a column of rows. -/
def stepV (y : FVec Ideal S128x1 .f32) (v : IVec S128x1 32) (s : BitVec 32) : IVec S128x1 32 :=
  select (andi (cmpi .sle (addi v (broadcast S128x1 s)) (broadcast S128x1 246#32))
    (cmpf .oge y (bitcastToFloat .f32 (shli (addi v (broadcast S128x1 s)) (broadcast S128x1 23#32))))) (addi v (broadcast S128x1 s)) v

theorem stepV_apply (y : FVec Ideal S128x1 .f32) (v : IVec S128x1 32) (s : BitVec 32) (j : S128x1.Idx) :
    stepV y v s j = Scale.stepUp (y j) (v j) s := rfl

theorem pay7_eq : k0_pay7 (F := Ideal) v11 v14
    = stepV (k0_pay6 v11 v14) (stepV (k0_pay6 v11 v14) (broadcast S128x1 0#32) 128#32) 64#32 := rfl

theorem pay11_eq (y : FVec Ideal S128x1 .f32) (v : IVec S128x1 32) :
    k0_pay11 (F := Ideal) y v (addi v (broadcast S128x1 32#32))
        (bitcastToFloat .f32 (shli (addi v (broadcast S128x1 32#32)) (broadcast S128x1 23#32))) k0_pay10
      = stepV y (stepV y (stepV y (stepV y (stepV y v 32#32) 16#32) 8#32) 4#32) 2#32 := rfl

theorem pay13_eq (y : FVec Ideal S128x1 .f32) (v : IVec S128x1 32) :
    k0_pay13 (F := Ideal) y v (addi v (broadcast S128x1 1#32)) 23#32 = shli (stepV y v 1#32) (broadcast S128x1 23#32) := rfl

/-- The word of the largest power of two not above a row's largest magnitude over 448. -/
theorem pay13_apply (j : S128x1.Idx) :
    k0_pay13 (F := Ideal) (k0_pay6 v11 v14) (p92 v11 v14) (p94 v11 v14) 23#32 j = Scale.bitsW (k0_pay6 (F := Ideal) v11 v14 j) := by
  have e : p92 v11 v14 = stepV (k0_pay6 v11 v14) (stepV (k0_pay6 v11 v14) (stepV (k0_pay6 v11 v14) (stepV (k0_pay6 v11 v14) (stepV (k0_pay6 v11 v14) (k0_pay7 v11 v14) 32#32) 16#32) 8#32) 4#32) 2#32 :=
    pay11_eq (k0_pay6 v11 v14) (k0_pay7 v11 v14)
  have e' : p94 v11 v14 = addi (p92 v11 v14) (broadcast S128x1 1#32) := rfl
  rw [e', pay13_eq, e, pay7_eq]
  show IntOp.shli .vector _ _ = _
  simp only [stepV_apply]
  rfl

/-- A row's scale. -/
theorem pay15_apply (r : Fin 128) :
    k0_pay15 (F := Ideal) (k0_pay6 v11 v14) (p92 v11 v14) (p94 v11 v14) 23#32 (ix2 r (0 : Fin 1))
      = Spec.sc (fun n => k0_pay5 (F := Ideal) v11 v14 (ix2 r n)) := by
  unfold Spec.sc
  rw [← pay6_apply, ← Scale.kScale_eq]
  unfold Scale.kScale
  rw [← pay13_apply]
  rfl

/-- A row's codes. -/
theorem pay16_apply (r n : Fin 128) :
    k0_pay16 (F := Ideal) (k0_pay5 v11 v14) (k0_pay6 v11 v14) (p92 v11 v14) (p94 v11 v14) 23#32 (ix2 r n)
      = Spec.code (fun n => k0_pay5 (F := Ideal) v11 v14 (ix2 r n)) n := by
  unfold Spec.code
  rw [← pay6_apply, ← Scale.kInv_eq]
  unfold Scale.kInv
  rw [← pay13_apply]
  unfold k0_pay16
  pointwise
  rfl

/-- The scales: the solved panel's lane takes its scale. -/
theorem pay17_apply (v3 : IVec S128x128 32) (w : BitVec 32) (old : Vec Ideal S128x128 .f32) (r l : Fin 128) :
    k0_pay17 (F := Ideal) v3 w (k0_pay6 v11 v14) (p92 v11 v14) (p94 v11 v14) 23#32 old (ix2 r l)
      = if v3 (ix2 r l) = w then Spec.sc (fun n => k0_pay5 (F := Ideal) v11 v14 (ix2 r n)) else old (ix2 r l) := by
  rw [← pay15_apply]
  unfold k0_pay17
  pointwise
  by_cases h : v3 (ix2 r l) = w
  · simp [h, Scalar.select, IntOp.cmpi]
  · have h' : (v3 (ix2 r l) == w) = false := by simpa using h
    simp [h, h', Scalar.select, IntOp.cmpi]
end

/-- A later panel less a solved one's contribution. -/
theorem pay3_apply (s : FVec Ideal S128x1 .f32) (q : FVec Ideal S128x128 .fp8e4m3) (t : Vec Ideal S1x128x128 .fp8e4m3)
    (old : Vec Ideal S128x128 .f32) (w : EReal) (r n : Fin 128) :
    k0_pay3 (F := Ideal) s q t old w (ix2 r n)
      = old (ix2 r n) + -(((∑ k : Fin 128, q (ix2 r k) * t (ix3 (0 : Fin 1) n k)) * w) * s (ix2 r (0 : Fin 1))) := by
  unfold k0_pay3
  pointwise
  rfl

theorem pay1_apply (v : Vec Ideal S128x7680 .f32) : k0_pay1 (F := Ideal) v = v := by
  unfold k0_pay1
  exact shapeCast_id _ _

theorem pay2_apply (j : S128x128.Idx) : k0_pay2 (F := Ideal) j = 0 := by
  unfold k0_pay2
  exact Scale.ofBits_zero

end Cert.Proof.KernelIdeal

end
-- ==== Proof.Panels.lean ====
/-
  Loads and stores of panels, tiles and words through any view of the shapes the two programs use (hand-written).
-/
module

public import Idealize.ShloMosaic.Lib.VecWindow
public import Idealize.ShloMosaic.Lib.Pointwise

@[expose] public section

noncomputable section

namespace Cert.Proof.Panels

open Idealize.ShloMosaic

/-- Column `n` of panel `p`. -/
def col (p : ℕ) (n : Fin 128) : Fin 7680 := ⟨(128 * p + n.val) % 7680, Nat.mod_lt _ (by omega)⟩

theorem col_val {p : ℕ} (hp : p < 60) (n : Fin 128) : (col p n).val = 128 * p + n.val :=
  Nat.mod_eq_of_lt (by omega)

/-- Every column is one of a panel. -/
theorem eq_col (j : Fin 7680) : j = col (j.val / 128) ⟨j.val % 128, Nat.mod_lt _ (by omega)⟩ := by
  apply Fin.ext
  rw [col_val (by omega)]
  show j.val = 128 * (j.val / 128) + j.val % 128
  omega

/-- Tile number `t`, in range. -/
def tn (t : ℕ) : Fin 1770 := ⟨t % 1770, Nat.mod_lt _ (by omega)⟩
theorem tn_val {t : ℕ} (h : t < 1770) : (tn t).val = t := Nat.mod_eq_of_lt h

/-- Block number `i`, in range. -/
def bn (i : ℕ) : Fin 60 := ⟨i % 60, Nat.mod_lt _ (by omega)⟩

theorem bn_val {i : ℕ} (h : i < 60) : (bn i).val = i := Nat.mod_eq_of_lt h

variable {sig : RefSig} {κ : Kind} {sp : Space} {e : EltTy} {Val : EltTy → Type} {H : ℕ}

theorem panel_emb (q : ℕ) (hq : q < 60) (off : Fin 2 → ℕ) (h : off = ![0, 128 * q])
    (inb : ∀ a, off a + (![H, 128] : Fin 2 → ℕ) a ≤ (⟨2, ![H, 7680]⟩ : Shape).size a) (r : Fin H) (n : Fin 128) :
    (Rect.unit (s := ⟨2, ![H, 7680]⟩) off ![H, 128] inb).emb (ix2 r n) = ix2 r (col q n) := by
  subst h
  funext a
  apply Fin.ext
  rw [Rect.emb_apply]
  match a with
  | ⟨0, _⟩ => show 0 + 1 * r.val = r.val; omega
  | ⟨1, _⟩ => show 128 * q + 1 * n.val = (col q n).val; rw [col_val hq]; omega

/-- A panel's load. -/
theorem readAt_panel (v : View sig κ sp ⟨2, ![H, 7680]⟩ e) (f : v.ty.Contents Val) (q : ℕ) (hq : q < 60) (off : Fin 2 → ℕ) (h : off = ![0, 128 * q])
    (inb : ∀ a, off a + (![H, 128] : Fin 2 → ℕ) a ≤ (⟨2, ![H, 7680]⟩ : Shape).size a) (r : Fin H) (n : Fin 128) :
    v.readAt Val (Rect.unit (s := ⟨2, ![H, 7680]⟩) off ![H, 128] inb).toLoadRect f (ix2 r n) = v.read Val f (ix2 r (col q n)) := by
  rw [View.readAt_eq_ld]
  show v.read Val f ((Rect.unit (s := ⟨2, ![H, 7680]⟩) off ![H, 128] inb).emb _) = _
  rw [panel_emb q hq off h inb]

/-- A panel's store: on the panel its payload, elsewhere what was there. -/
theorem read_writes_panel (v : View sig κ sp ⟨2, ![H, 7680]⟩ e) (f : v.ty.Contents Val) (q : ℕ) (hq : q < 60) (off : Fin 2 → ℕ) (h : off = ![0, 128 * q])
    (inb : ∀ a, off a + (![H, 128] : Fin 2 → ℕ) a ≤ (⟨2, ![H, 7680]⟩ : Shape).size a)
    (w : (Rect.unit (s := ⟨2, ![H, 7680]⟩) off ![H, 128] inb).shape.Idx → Val e) (L : List (View.Piece Val ⟨2, ![H, 7680]⟩ e))
    (r : Fin H) (p : ℕ) (hp : p < 60) (n : Fin 128) :
    v.read Val (v.writes Val f (⟨Rect.unit (s := ⟨2, ![H, 7680]⟩) off ![H, 128] inb, w⟩ :: L)) (ix2 r (col p n))
      = if p = q then w (ix2 r n) else v.read Val (v.writes Val f L) (ix2 r (col p n)) := by
  by_cases hpq : p = q
  · subst hpq
    rw [if_pos rfl, ← panel_emb p hp off h inb r n]
    exact View.read_writes_cons_emb v f _ w L _
  · rw [if_neg hpq, View.writes_cons, View.read_slice_write_of_not_mem]
    rw [Rect.map_emb_univ]
    show _ ∉ (Rect.unit (s := ⟨2, ![H, 7680]⟩) off ![H, 128] inb).set
    rw [Rect.mem_set_unit]
    intro hm
    have h1 := hm 1
    subst h
    have e : ((ix2 r (col p n) : (⟨2, ![H, 7680]⟩ : Shape).Idx) 1).val = 128 * p + n.val := col_val hp n
    have h2 : 128 * q ≤ 128 * p + n.val ∧ 128 * p + n.val < 128 * q + 128 := by rw [← e]; exact h1
    have := n.isLt
    omega

/-- A tile's load. -/
theorem readAt_tile {T : ℕ} (v : View sig κ sp ⟨3, ![T, 128, 128]⟩ e) (f : v.ty.Contents Val) (t : Fin T) (off : Fin 3 → ℕ) (h : off = ![t.val, 0, 0])
    (inb : ∀ a, off a + (![1, 128, 128] : Fin 3 → ℕ) a ≤ (⟨3, ![T, 128, 128]⟩ : Shape).size a) (n k : Fin 128) :
    v.readAt Val (Rect.unit (s := ⟨3, ![T, 128, 128]⟩) off ![1, 128, 128] inb).toLoadRect f (ix3 (0 : Fin 1) n k) = v.read Val f (ix3 t n k) := by
  rw [View.readAt_eq_ld]
  show v.read Val f ((Rect.unit (s := ⟨3, ![T, 128, 128]⟩) off ![1, 128, 128] inb).emb _) = _
  congr 1
  subst h
  funext a
  apply Fin.ext
  rw [Rect.emb_apply]
  match a with
  | ⟨0, _⟩ => show t.val + 1 * 0 = t.val; omega
  | ⟨1, _⟩ => show 0 + 1 * n.val = n.val; omega
  | ⟨2, _⟩ => show 0 + 1 * k.val = k.val; omega

/-- A word's load from a flat table. -/
theorem readAt_word1 {T : ℕ} (v : View sig κ sp ⟨1, ![T]⟩ e) (f : v.ty.Contents Val) (t : Fin T) (off : Fin 1 → ℕ) (h : off = ![t.val])
    (inb : ∀ a, off a + (![1] : Fin 1 → ℕ) a ≤ (⟨1, ![T]⟩ : Shape).size a) (j : (⟨1, ![1]⟩ : Shape).Idx) :
    v.readAt Val (Rect.unit (s := ⟨1, ![T]⟩) off ![1] inb).toLoadRect f j = v.read Val f (ix1 t) := by
  rw [View.readAt_eq_ld]
  show v.read Val f ((Rect.unit (s := ⟨1, ![T]⟩) off ![1] inb).emb _) = _
  congr 1
  subst h
  funext a
  apply Fin.ext
  rw [Rect.emb_apply]
  have hj : (j 0).val = 0 := by have := (j 0).isLt; simp at this; omega
  match a with
  | ⟨0, _⟩ => show t.val + 1 * (j 0).val = t.val; omega

/-- A word's load from a table of one row. -/
theorem readAt_word2 {T : ℕ} (v : View sig κ sp ⟨2, ![1, T]⟩ e) (f : v.ty.Contents Val) (t : Fin T) (off : Fin 2 → ℕ) (h : off = ![0, t.val])
    (inb : ∀ a, off a + (![1, 1] : Fin 2 → ℕ) a ≤ (⟨2, ![1, T]⟩ : Shape).size a) (j : (⟨2, ![1, 1]⟩ : Shape).Idx) :
    v.readAt Val (Rect.unit (s := ⟨2, ![1, T]⟩) off ![1, 1] inb).toLoadRect f j = v.read Val f (ix2 (0 : Fin 1) t) := by
  rw [View.readAt_eq_ld]
  show v.read Val f ((Rect.unit (s := ⟨2, ![1, T]⟩) off ![1, 1] inb).emb _) = _
  congr 1
  subst h
  funext a
  apply Fin.ext
  rw [Rect.emb_apply]
  have hj : (j 1).val = 0 := by have := (j 1).isLt; simp at this; omega
  have hj0 : (j 0).val = 0 := by have := (j 0).isLt; simp at this; omega
  match a with
  | ⟨0, _⟩ => show 0 + 1 * (j 0).val = 0; omega
  | ⟨1, _⟩ => show t.val + 1 * (j 1).val = t.val; omega

end Cert.Proof.Panels

end
-- ==== Proof.KernelIdealTrip.lean ====
/-
  One trip of the forward substitution's loops at the exact arithmetic, read at a row and a panel's column
  (hand-written).
-/
module

public import proofs.«01_k».proof.Proof.KernelIdealLoop
public import proofs.«01_k».proof.Proof.KernelIdealPay
public import proofs.«01_k».proof.Proof.Panels

@[expose] public section

set_option maxRecDepth 16384
set_option maxHeartbeats 4000000

noncomputable section

namespace Cert.Proof.KernelIdeal

open Cert.KernelIdeal Cert.KernelIdeal.Gen Cert.Proof Cert.Proof.Panels
open Idealize.ShloMosaic Idealize.ShloMosaic.TcCoe Idealize.ShloMosaic.Tactic

/-! ## The loops' words -/

theorem t1_trips : k0_t1_loop.trips = 60 := by decide +kernel
theorem t2_trips : ∀ k : Fin k0_t1_loop.trips, (k0_t2_loop k).trips = 59 - k.val := by decide +kernel
theorem t3_trips : ∀ k : Fin k0_t1_loop.trips, (k0_t3_loop k).trips = 0 := by decide +kernel
theorem off1_eq : ∀ k : Fin k0_t1_loop.trips, k0_off1 k = ![0, 128 * k.val] := by decide +kernel
theorem off2_eq : ∀ k : Fin k0_t1_loop.trips, k0_off2 k = ![k.val, 0, 0] := by decide +kernel
theorem off4_eq : ∀ (k : Fin k0_t1_loop.trips) (j : Fin (k0_t2_loop k).trips), k0_off4 k j = ![0, 128 * (k.val + 1 + j.val)] := by decide +kernel
theorem off3_eq : ∀ (k : Fin k0_t1_loop.trips) (j : Fin (k0_t2_loop k).trips),
    k0_off3 k (offw k.val) j = ![Spec.tileNo k.val (k.val + 1 + j.val), 0, 0] := by decide +kernel
theorem off5_eq : ∀ (k : Fin k0_t1_loop.trips) (j : Fin (k0_t2_loop k).trips),
    k0_off5 k (offw k.val) j = ![Spec.tileNo k.val (k.val + 1 + j.val)] := by decide +kernel
theorem tileNo_lt : ∀ (k : Fin k0_t1_loop.trips) (j : Fin (k0_t2_loop k).trips), Spec.tileNo k.val (k.val + 1 + j.val) < 1770 := by decide +kernel
theorem lane_word : ∀ (k : Fin k0_t1_loop.trips) (l : Fin 128), (BitVec.ofNat 32 l.val = Scf.iv 0#32 1#32 k) ↔ l.val = k.val := by decide +kernel

variable (c : Dev nD) (i : grid0.Coords) (arg1 : Memref sig .tc .smem S1770 .f32) (harg1 : arg1.IsWhole) (arg2 : Memref sig .tc .vmem S128x7680 .f32) (harg2 : arg2.IsWhole) (arg3 : Memref sig .tc .vmem S1770x128x128 .fp8e4m3) (harg3 : arg3.IsWhole) (arg4 : Memref sig .tc .vmem S60x128x128 .f32) (harg4 : arg4.IsWhole) (arg5 : Memref sig .tc .vmem S128x7680 .f32) (harg5 : arg5.IsWhole) (arg6 : Memref sig .tc .vmem S128x7680 .fp8e4m3) (harg6 : arg6.IsWhole) (arg7 : Memref sig .tc .vmem S128x128 .f32) (harg7 : arg7.IsWhole)
  (X1 : BufTy.Contents (Elt Ideal) arg1.view.ty) (X3 : BufTy.Contents (Elt Ideal) arg3.view.ty) (X4 : BufTy.Contents (Elt Ideal) arg4.view.ty)

/-- Tile `t`, scale `t` and diagonal block `b`, as the body reads them. -/
def Tl (t : ℕ) (n k : Fin 128) : EReal := arg3.view.read (Elt Ideal) X3 (ix3 (tn t) n k)
def Ts (t : ℕ) : EReal := arg1.view.read (Elt Ideal) X1 (ix1 (tn t))
def Wt (b : ℕ) (n k : Fin 128) : EReal := arg4.view.read (Elt Ideal) X4 (ix3 (bn b) n k)

/-! ## The inner loop: each later panel less the solved panel's contribution -/

/-- What the inner loop's trip stores. -/
theorem tripL_eq (k : Fin k0_t1_loop.trips) (hw : k0_chk1 k (offw k.val)) (v115 : FVec Ideal S128x1 .f32) (v123 : FVec Ideal S128x128 .fp8e4m3) (j : Fin (k0_t2_loop k).trips)
    (acc : BitVec 32) (f5 : BufTy.Contents (Elt Ideal) arg5.view.ty) (r : Fin 128) (p : ℕ) (hp : p < 60) (n : Fin 128)
    (G5 : BufTy.Contents (Elt Ideal) arg5.view.ty) (L : List (View.Piece (Elt Ideal) S128x7680 .f32)) (hf : f5 = arg5.view.writes (Elt Ideal) G5 L) :
    arg5.view.read (Elt Ideal) (arg5.view.writes (Elt Ideal) G5
        (tripL_k0_t2 (F := Ideal) 𝒱₀ c none i arg1 harg1 arg2 harg2 arg3 harg3 arg4 harg4 arg5 harg5 arg6 harg6 arg7 harg7 k (offw k.val) hw v115 v123 X1 X3 j acc f5 ++ L)) (ix2 r (col p n))
      = if p = k.val + 1 + j.val then
          arg5.view.read (Elt Ideal) f5 (ix2 r (col p n))
            + -(((∑ kk : Fin 128, v123 (ix2 r kk) * Tl arg3 X3 (Spec.tileNo k.val p) n kk) * Ts arg1 X1 (Spec.tileNo k.val p)) * v115 (ix2 r (0 : Fin 1)))
        else arg5.view.read (Elt Ideal) f5 (ix2 r (col p n)) := by
  have hj : k.val + 1 + j.val < 60 := by have := j.isLt; have := t2_trips k; omega
  have e : tripL_k0_t2 (F := Ideal) 𝒱₀ c none i arg1 harg1 arg2 harg2 arg3 harg3 arg4 harg4 arg5 harg5 arg6 harg6 arg7 harg7 k (offw k.val) hw v115 v123 X1 X3 j acc f5
      = [⟨Rect.unit (s := S128x7680) (k0_off4 k j) ![128, 128] (k0_off4_inb k j),
          k0_pay3 (F := Ideal) v115 v123 (arg3.view.readAt (Elt Ideal) (Rect.unit (s := S1770x128x128) (k0_off3 k (offw k.val) j) ![1, 128, 128] (k0_off3_inb k (offw k.val) hw j)).toLoadRect X3)
            (arg5.view.readAt (Elt Ideal) (Rect.unit (s := S128x7680) (k0_off4 k j) ![128, 128] (k0_off4_inb k j)).toLoadRect f5)
            (arg1.view.readAt (Elt Ideal) (Rect.unit (s := S1770) (k0_off5 k (offw k.val) j) S1.size (k0_off5_inb k (offw k.val) hw j)).toLoadRect X1 (Shape.Idx.first (show 0 < S1.numel by decide)))⟩] := by
    unfold tripL_k0_t2 trip_k0_t2
    dsimp only
    sl_unfold_words
    rfl
  rw [e, List.singleton_append]
  rw [read_writes_panel arg5.view G5 (k.val + 1 + j.val) hj (k0_off4 k j) (off4_eq k j) (k0_off4_inb k j) _ L r p hp n, ← hf]
  by_cases h : p = k.val + 1 + j.val
  · rw [if_pos h, if_pos h, pay3_apply]
    rw [readAt_panel arg5.view f5 (k.val + 1 + j.val) hj (k0_off4 k j) (off4_eq k j) (k0_off4_inb k j) r n]
    have ht := tileNo_lt k j
    have e1 : ∀ kk : Fin 128, arg3.view.readAt (Elt Ideal) (Rect.unit (s := S1770x128x128) (k0_off3 k (offw k.val) j) ![1, 128, 128] (k0_off3_inb k (offw k.val) hw j)).toLoadRect X3 (ix3 (0 : Fin 1) n kk)
        = Tl arg3 X3 (Spec.tileNo k.val p) n kk := fun kk => by
      rw [readAt_tile arg3.view X3 (tn (Spec.tileNo k.val p)) (k0_off3 k (offw k.val) j) (by rw [off3_eq k j, h, tn_val ht]) (k0_off3_inb k (offw k.val) hw j) n kk]
      rfl
    have e2 : arg1.view.readAt (Elt Ideal) (Rect.unit (s := S1770) (k0_off5 k (offw k.val) j) S1.size (k0_off5_inb k (offw k.val) hw j)).toLoadRect X1 (Shape.Idx.first (show 0 < S1.numel by decide))
        = Ts arg1 X1 (Spec.tileNo k.val p) := by
      refine (readAt_word1 arg1.view X1 (tn (Spec.tileNo k.val p)) (k0_off5 k (offw k.val) j) (by rw [off5_eq k j, h, tn_val ht]) (k0_off5_inb k (offw k.val) hw j) _).trans rfl
    rw [e2, ← h]
    simp only [e1]
  · rw [if_neg h, if_neg h]

/-- The running panels before the inner loop's trip `j`. -/
theorem st_t2_eq (k : Fin k0_t1_loop.trips) (hw : k0_chk1 k (offw k.val)) (v115 : FVec Ideal S128x1 .f32) (v123 : FVec Ideal S128x128 .fp8e4m3)
    (G5 : BufTy.Contents (Elt Ideal) arg5.view.ty) (w : BitVec 32) (r : Fin 128) (p : ℕ) (hp : p < 60) (n : Fin 128) :
    ∀ j : ℕ, j ≤ (k0_t2_loop k).trips →
      arg5.view.read (Elt Ideal) (arg5.view.writes (Elt Ideal) G5
          (st_k0_t2 (F := Ideal) 𝒱₀ c none i arg1 harg1 arg2 harg2 arg3 harg3 arg4 harg4 arg5 harg5 arg6 harg6 arg7 harg7 k (offw k.val) hw v115 v123 X1 X3 G5 w j).2) (ix2 r (col p n))
        = if k.val < p ∧ p < k.val + 1 + j then
            arg5.view.read (Elt Ideal) G5 (ix2 r (col p n))
              + -(((∑ kk : Fin 128, v123 (ix2 r kk) * Tl arg3 X3 (Spec.tileNo k.val p) n kk) * Ts arg1 X1 (Spec.tileNo k.val p)) * v115 (ix2 r (0 : Fin 1)))
          else arg5.view.read (Elt Ideal) G5 (ix2 r (col p n)) := by
  intro j
  induction j with
  | zero =>
    intro _
    rw [if_neg (by omega)]
    rfl
  | succ j ih =>
    intro hj
    rw [show j + 1 = (⟨j, hj⟩ : Fin (k0_t2_loop k).trips).val + 1 from rfl, st_k0_t2_succ]
    dsimp only
    rw [tripL_eq (hp := hp) (hf := rfl), ih (Nat.le_of_lt hj)]
    dsimp only
    by_cases h : p = k.val + 1 + j
    · rw [if_pos h, if_neg (by omega), if_pos (by omega)]
    · rw [if_neg h]
      by_cases h' : k.val < p ∧ p < k.val + 1 + j
      · rw [if_pos h', if_pos (by omega)]
      · rw [if_neg h', if_neg (by omega)]

/-! ## The outer loop's trip -/

/-- Panel `k` as trip `k` finds it, and the inverse of its diagonal block. -/
abbrev ldP (k : Fin k0_t1_loop.trips) (f5 : BufTy.Contents (Elt Ideal) arg5.view.ty) : Vec Ideal S128x128 .f32 :=
  arg5.view.readAt (Elt Ideal) (Rect.unit (s := S128x7680) (k0_off1 k) ![128, 128] (k0_off1_inb k)).toLoadRect f5
abbrev ldW (k : Fin k0_t1_loop.trips) : Vec Ideal S1x128x128 .f32 :=
  arg4.view.readAt (Elt Ideal) (Rect.unit (s := S60x128x128) (k0_off2 k) ![1, 128, 128] (k0_off2_inb k)).toLoadRect X4

/-- Row `r` of the panel trip `k` solves, from the running panels it finds. -/
def solved (k : ℕ) (f5 : BufTy.Contents (Elt Ideal) arg5.view.ty) (r n : Fin 128) : EReal :=
  ∑ kk : Fin 128, arg5.view.read (Elt Ideal) f5 (ix2 r (col k kk)) * Wt arg4 X4 k n kk

theorem pay5_ld (k : Fin k0_t1_loop.trips) (f5 : BufTy.Contents (Elt Ideal) arg5.view.ty) (r n : Fin 128) :
    k0_pay5 (F := Ideal) (ldP arg5 k f5) (ldW arg4 X4 k) (ix2 r n) = solved arg4 arg5 X4 k.val f5 r n := by
  have hk : k.val < 60 := by have := k.isLt; have := t1_trips; omega
  rw [pay5_apply]
  unfold solved
  refine Finset.sum_congr rfl fun kk _ => ?_
  unfold ldP ldW
  rw [readAt_panel arg5.view f5 k.val hk (k0_off1 k) (off1_eq k) (k0_off1_inb k) r kk,
    readAt_tile arg4.view X4 (bn k.val) (k0_off2 k) (by rw [off2_eq k, bn_val hk]) (k0_off2_inb k) n kk]
  rfl

theorem pay5_row (k : Fin k0_t1_loop.trips) (f5 : BufTy.Contents (Elt Ideal) arg5.view.ty) (r : Fin 128) :
    (fun n => k0_pay5 (F := Ideal) (ldP arg5 k f5) (ldW arg4 X4 k) (ix2 r n)) = solved arg4 arg5 X4 k.val f5 r :=
  funext fun n => pay5_ld arg4 arg5 X4 k f5 r n

section
variable (v3 : IVec S128x128 32) (k : Fin k0_t1_loop.trips)
    (f5 : BufTy.Contents (Elt Ideal) arg5.view.ty) (f6 : BufTy.Contents (Elt Ideal) arg6.view.ty) (f7 : BufTy.Contents (Elt Ideal) arg7.view.ty)

/-- The solved panel's row scales and codes. -/
abbrev tS : FVec Ideal S128x1 .f32 :=
  k0_pay15 (F := Ideal) (k0_pay6 (ldP arg5 k f5) (ldW arg4 X4 k)) (p92 (ldP arg5 k f5) (ldW arg4 X4 k)) (p94 (ldP arg5 k f5) (ldW arg4 X4 k)) 23#32
abbrev tQ : FVec Ideal S128x128 .fp8e4m3 :=
  k0_pay16 (F := Ideal) (k0_pay5 (ldP arg5 k f5) (ldW arg4 X4 k)) (k0_pay6 (ldP arg5 k f5) (ldW arg4 X4 k)) (p92 (ldP arg5 k f5) (ldW arg4 X4 k)) (p94 (ldP arg5 k f5) (ldW arg4 X4 k)) 23#32

theorem tS_apply (r : Fin 128) : tS arg4 arg5 X4 k f5 (ix2 r (0 : Fin 1)) = Spec.sc (solved arg4 arg5 X4 k.val f5 r) := by
  rw [← pay5_row]; exact pay15_apply _ _ r
theorem tQ_apply (r n : Fin 128) : tQ arg4 arg5 X4 k f5 (ix2 r n) = Spec.code (solved arg4 arg5 X4 k.val f5 r) n := by
  rw [← pay5_row]; exact pay16_apply _ _ r n

/-- The store of the solved panel. -/
abbrev pc5 : View.Piece (Elt Ideal) S128x7680 .f32 :=
  ⟨Rect.unit (s := S128x7680) (k0_off1 k) ![128, 128] (k0_off1_inb k), k0_pay5 (F := Ideal) (ldP arg5 k f5) (ldW arg4 X4 k)⟩

theorem trip1_fst :
    (trip1 (F := Ideal) c i arg1 harg1 arg2 harg2 arg3 harg3 arg4 harg4 arg5 harg5 arg6 harg6 arg7 harg7 v3 X1 X3 X4 k).1 f5 f6 f7
      = arg5.view.writes (Elt Ideal) f5
          ((st_k0_t3 (F := Ideal) 𝒱₀ c none i arg1 harg1 arg2 harg2 arg3 harg3 arg4 harg4 arg5 harg5 arg6 harg6 arg7 harg7 k (offw k.val) (chk_offw k) (tS arg4 arg5 X4 k f5) (tQ arg4 arg5 X4 k f5) X1 X3 (arg5.view.writes (Elt Ideal) f5 ((st_k0_t2 (F := Ideal) 𝒱₀ c none i arg1 harg1 arg2 harg2 arg3 harg3 arg4 harg4 arg5 harg5 arg6 harg6 arg7 harg7 k (offw k.val) (chk_offw k) (tS arg4 arg5 X4 k f5) (tQ arg4 arg5 X4 k f5) X1 X3 (arg5.view.writes (Elt Ideal) f5 [pc5 arg4 arg5 X4 k f5]) 0#32 (k0_t2_loop k).trips).2 ++ [pc5 arg4 arg5 X4 k f5])) (st_k0_t2 (F := Ideal) 𝒱₀ c none i arg1 harg1 arg2 harg2 arg3 harg3 arg4 harg4 arg5 harg5 arg6 harg6 arg7 harg7 k (offw k.val) (chk_offw k) (tS arg4 arg5 X4 k f5) (tQ arg4 arg5 X4 k f5) X1 X3 (arg5.view.writes (Elt Ideal) f5 [pc5 arg4 arg5 X4 k f5]) 0#32 (k0_t2_loop k).trips).1 (k0_t3_loop k).trips).2
            ++ ((st_k0_t2 (F := Ideal) 𝒱₀ c none i arg1 harg1 arg2 harg2 arg3 harg3 arg4 harg4 arg5 harg5 arg6 harg6 arg7 harg7 k (offw k.val) (chk_offw k) (tS arg4 arg5 X4 k f5) (tQ arg4 arg5 X4 k f5) X1 X3 (arg5.view.writes (Elt Ideal) f5 [pc5 arg4 arg5 X4 k f5]) 0#32 (k0_t2_loop k).trips).2
              ++ [pc5 arg4 arg5 X4 k f5])) := by
  unfold trip1
  dsimp only
  sl_unfold_words
  rfl

theorem trip1_snd : (trip1 (F := Ideal) c i arg1 harg1 arg2 harg2 arg3 harg3 arg4 harg4 arg5 harg5 arg6 harg6 arg7 harg7 v3 X1 X3 X4 k).2.1 f5 f6 f7
      = arg6.view.writes (Elt Ideal) f6
          [⟨Rect.unit (s := S128x7680) (k0_off1 k) ![128, 128] (k0_off1_inb k), tQ arg4 arg5 X4 k f5⟩] := by
  unfold trip1
  dsimp only
  sl_unfold_words
  rfl

theorem trip1_thd : (trip1 (F := Ideal) c i arg1 harg1 arg2 harg2 arg3 harg3 arg4 harg4 arg5 harg5 arg6 harg6 arg7 harg7 v3 X1 X3 X4 k).2.2.1 f5 f6 f7
      = arg7.view.writes (Elt Ideal) arg7.view.junk
          [⟨Rect.unit (s := S128x128) ![0, 0] S128x128.size inb_S128x128_S128x128_0_0,
            k0_pay17 (F := Ideal) v3 (Scf.iv 0#32 1#32 k) (k0_pay6 (ldP arg5 k f5) (ldW arg4 X4 k)) (p92 (ldP arg5 k f5) (ldW arg4 X4 k)) (p94 (ldP arg5 k f5) (ldW arg4 X4 k)) 23#32
              (arg7.view.readAt (Elt Ideal) (Rect.unit (s := S128x128) ![0, 0] S128x128.size inb_S128x128_S128x128_0_0).toLoadRect f7)⟩] := by
  unfold trip1
  dsimp only
  sl_unfold_words
  rfl

/-- What the trip leaves in the running panels: the solved panel, and each later panel less its contribution. -/
theorem trip1_read5 (r : Fin 128) (p : ℕ) (hp : p < 60) (n : Fin 128) :
    arg5.view.read (Elt Ideal) ((trip1 (F := Ideal) c i arg1 harg1 arg2 harg2 arg3 harg3 arg4 harg4 arg5 harg5 arg6 harg6 arg7 harg7 v3 X1 X3 X4 k).1 f5 f6 f7) (ix2 r (col p n))
      = if p = k.val then solved arg4 arg5 X4 k.val f5 r n
        else if k.val < p then arg5.view.read (Elt Ideal) f5 (ix2 r (col p n))
          + -(Spec.upd (Tl arg3 X3) (Ts arg1 X1) (solved arg4 arg5 X4 k.val f5 r) (Spec.tileNo k.val p) n)
        else arg5.view.read (Elt Ideal) f5 (ix2 r (col p n)) := by
  have hk : k.val < 60 := by have := k.isLt; have := t1_trips; omega
  have e := trip1_fst c i arg1 harg1 arg2 harg2 arg3 harg3 arg4 harg4 arg5 harg5 arg6 harg6 arg7 harg7 X1 X3 X4 v3 k f5 f6 f7
  have h3 : ∀ G w m, m = 0 → (st_k0_t3 (F := Ideal) 𝒱₀ c none i arg1 harg1 arg2 harg2 arg3 harg3 arg4 harg4 arg5 harg5 arg6 harg6 arg7 harg7 k (offw k.val) (chk_offw k) (tS arg4 arg5 X4 k f5) (tQ arg4 arg5 X4 k f5) X1 X3 G w m).2 = [] := by
    rintro _ _ _ rfl; rfl
  rw [e, h3 _ _ _ (t3_trips k), List.nil_append, View.writes_append]
  rw [st_t2_eq c i arg1 harg1 arg2 harg2 arg3 harg3 arg4 harg4 arg5 harg5 arg6 harg6 arg7 harg7 X1 X3 k _ _ _ _ _ r p hp n _ le_rfl, t2_trips k]
  have e0 : arg5.view.read (Elt Ideal) (arg5.view.writes (Elt Ideal) f5 [pc5 arg4 arg5 X4 k f5]) (ix2 r (col p n))
      = if p = k.val then solved arg4 arg5 X4 k.val f5 r n else arg5.view.read (Elt Ideal) f5 (ix2 r (col p n)) := by
    rw [read_writes_panel arg5.view f5 k.val hk (k0_off1 k) (off1_eq k) (k0_off1_inb k) _ [] r p hp n, pay5_ld]
    rfl
  rw [e0]
  simp only [tS_apply, tQ_apply]
  by_cases h : p = k.val
  · rw [if_neg (by omega), if_pos h, if_pos h]
  · rw [if_neg h, if_neg h]
    by_cases h' : k.val < p
    · rw [if_pos (by omega), if_pos h']; rfl
    · rw [if_neg (by omega), if_neg h']

theorem trip1_read6 (r : Fin 128) (p : ℕ) (hp : p < 60) (n : Fin 128) :
    arg6.view.read (Elt Ideal) ((trip1 (F := Ideal) c i arg1 harg1 arg2 harg2 arg3 harg3 arg4 harg4 arg5 harg5 arg6 harg6 arg7 harg7 v3 X1 X3 X4 k).2.1 f5 f6 f7) (ix2 r (col p n))
      = if p = k.val then Spec.code (solved arg4 arg5 X4 k.val f5 r) n else arg6.view.read (Elt Ideal) f6 (ix2 r (col p n)) := by
  have hk : k.val < 60 := by have := k.isLt; have := t1_trips; omega
  rw [trip1_snd, read_writes_panel arg6.view f6 k.val hk (k0_off1 k) (off1_eq k) (k0_off1_inb k) _ [] r p hp n]
  rw [tQ_apply]
  rfl

theorem trip1_read7 (r l : Fin 128) :
    arg7.view.read (Elt Ideal) ((trip1 (F := Ideal) c i arg1 harg1 arg2 harg2 arg3 harg3 arg4 harg4 arg5 harg5 arg6 harg6 arg7 harg7 lanes X1 X3 X4 k).2.2.1 f5 f6 f7) (ix2 r l)
      = if l.val = k.val then Spec.sc (solved arg4 arg5 X4 k.val f5 r) else arg7.view.read (Elt Ideal) f7 (ix2 r l) := by
  rw [trip1_thd, View.read_writes_full, pay17_apply, pay5_row, View.readAt_full]
  have e : (lanes (ix2 r l) = Scf.iv 0#32 1#32 k) ↔ l.val = k.val := by
    have : lanes (ix2 r l) = BitVec.ofNat 32 l.val := by unfold lanes; rw [iota_single_apply]; rfl
    rw [this]; exact lane_word k l
  simp only [e]
end

end Cert.Proof.KernelIdeal

end
-- ==== Proof.KernelIdealValue.lean ====
/-
  The forward substitution's outer loop at the exact arithmetic (hand-written): what the three results hold before trip
  `k`, row by row, and so what the body leaves in them.
-/
module

public import proofs.«01_k».proof.Proof.KernelIdealTrip

@[expose] public section

set_option maxRecDepth 16384
set_option maxHeartbeats 400000

noncomputable section

namespace Cert.Proof.KernelIdeal

open Cert.KernelIdeal Cert.KernelIdeal.Gen Cert.Proof Cert.Proof.Panels
open Idealize.ShloMosaic Idealize.ShloMosaic.TcCoe Idealize.ShloMosaic.Tactic

variable (c : Dev nD) (i : grid0.Coords) (arg1 : Memref sig .tc .smem S1770 .f32) (harg1 : arg1.IsWhole) (arg2 : Memref sig .tc .vmem S128x7680 .f32) (harg2 : arg2.IsWhole) (arg3 : Memref sig .tc .vmem S1770x128x128 .fp8e4m3) (harg3 : arg3.IsWhole) (arg4 : Memref sig .tc .vmem S60x128x128 .f32) (harg4 : arg4.IsWhole) (arg5 : Memref sig .tc .vmem S128x7680 .f32) (harg5 : arg5.IsWhole) (arg6 : Memref sig .tc .vmem S128x7680 .fp8e4m3) (harg6 : arg6.IsWhole) (arg7 : Memref sig .tc .vmem S128x128 .f32) (harg7 : arg7.IsWhole)
  (X1 : BufTy.Contents (Elt Ideal) arg1.view.ty) (X2 : BufTy.Contents (Elt Ideal) arg2.view.ty) (X3 : BufTy.Contents (Elt Ideal) arg3.view.ty) (X4 : BufTy.Contents (Elt Ideal) arg4.view.ty)
  (f6 : BufTy.Contents (Elt Ideal) arg6.view.ty)

/-- Row `r` of the right-hand sides, panel by panel. -/
def Bt (r : Fin 128) (p : ℕ) (n : Fin 128) : EReal := arg2.view.read (Elt Ideal) X2 (ix2 r (col p n))

/-- Row `r` of the solution, and its running panels. -/
def Xr (r : Fin 128) : ℕ → Fin 128 → EReal := Spec.X (Bt arg2 X2 r) (Tl arg3 X3) (Ts arg1 X1) (Wt arg4 X4)
def Rr (r : Fin 128) : ℕ → ℕ → Fin 128 → EReal := Spec.R (Bt arg2 X2 r) (Tl arg3 X3) (Ts arg1 X1) (Wt arg4 X4)

theorem Xr_eq (r : Fin 128) (k : ℕ) (n : Fin 128) : Xr arg1 arg2 arg3 arg4 X1 X2 X3 X4 r k n = ∑ kk, Rr arg1 arg2 arg3 arg4 X1 X2 X3 X4 r k k kk * Wt arg4 X4 k n kk :=
  Spec.X_eq _ _ _ _ k n
theorem Rr_zero (r : Fin 128) (p : ℕ) (n : Fin 128) : Rr arg1 arg2 arg3 arg4 X1 X2 X3 X4 r p 0 n = Bt arg2 X2 r p n :=
  Spec.R_zero _ _ _ _ p n
theorem Rr_succ (r : Fin 128) (p k : ℕ) (n : Fin 128) : Rr arg1 arg2 arg3 arg4 X1 X2 X3 X4 r p (k + 1) n
    = Rr arg1 arg2 arg3 arg4 X1 X2 X3 X4 r p k n + -(Spec.upd (Tl arg3 X3) (Ts arg1 X1) (Xr arg1 arg2 arg3 arg4 X1 X2 X3 X4 r k) (Spec.tileNo k p) n) :=
  Spec.R_succ _ _ _ _ p k n

theorem init5_read (r : Fin 128) (p : ℕ) (n : Fin 128) :
    arg5.view.read (Elt Ideal) (init5 (F := Ideal) arg2 arg5 X2) (ix2 r (col p n)) = Bt arg2 X2 r p n := by
  unfold init5
  rw [View.read_writes_full, pay1_apply, View.readAt_full]
  rfl

theorem init7_read (j : S128x128.Idx) : arg7.view.read (Elt Ideal) (init7 (F := Ideal) arg7) j = 0 := by
  unfold init7
  rw [View.read_writes_full, pay2_apply]

theorem ST_zero (G5 : BufTy.Contents (Elt Ideal) arg5.view.ty) (G6 : BufTy.Contents (Elt Ideal) arg6.view.ty) (G7 : BufTy.Contents (Elt Ideal) arg7.view.ty) :
    ST (F := Ideal) c i arg1 harg1 arg2 harg2 arg3 harg3 arg4 harg4 arg5 harg5 arg6 harg6 arg7 harg7 lanes X1 X3 X4 G5 G6 G7 0 = (G5, G6, G7) := rfl

/-- The three results before trip `k`: the first `k` panels solved, the others less those panels' contributions; the
    solved panels' codes; their scales, and zeros. -/
theorem ST_eq (r : Fin 128) : ∀ k : ℕ, k ≤ 60 →
    (∀ (p : ℕ) (n : Fin 128), p < 60 → arg5.view.read (Elt Ideal) (ST (F := Ideal) c i arg1 harg1 arg2 harg2 arg3 harg3 arg4 harg4 arg5 harg5 arg6 harg6 arg7 harg7 lanes X1 X3 X4 (init5 arg2 arg5 X2) f6 (init7 arg7) k).1 (ix2 r (col p n)) = if p < k then (Xr arg1 arg2 arg3 arg4 X1 X2 X3 X4 r) p n else (Rr arg1 arg2 arg3 arg4 X1 X2 X3 X4 r) p k n)
    ∧ (∀ (p : ℕ) (n : Fin 128), p < k → arg6.view.read (Elt Ideal) (ST (F := Ideal) c i arg1 harg1 arg2 harg2 arg3 harg3 arg4 harg4 arg5 harg5 arg6 harg6 arg7 harg7 lanes X1 X3 X4 (init5 arg2 arg5 X2) f6 (init7 arg7) k).2.1 (ix2 r (col p n)) = Spec.code ((Xr arg1 arg2 arg3 arg4 X1 X2 X3 X4 r) p) n)
    ∧ (∀ l : Fin 128, arg7.view.read (Elt Ideal) (ST (F := Ideal) c i arg1 harg1 arg2 harg2 arg3 harg3 arg4 harg4 arg5 harg5 arg6 harg6 arg7 harg7 lanes X1 X3 X4 (init5 arg2 arg5 X2) f6 (init7 arg7) k).2.2 (ix2 r l) = if l.val < k then Spec.sc ((Xr arg1 arg2 arg3 arg4 X1 X2 X3 X4 r) l.val) else 0) := by
  intro k
  induction k with
  | zero =>
    intro _
    rw [ST_zero]
    dsimp only
    refine ⟨fun p n hp => ?_, fun p n hp => absurd hp (Nat.not_lt_zero _), fun l => ?_⟩
    · rw [init5_read arg2 arg5 X2 r p n, if_neg (Nat.not_lt_zero p), Rr_zero]
    · rw [init7_read, if_neg (Nat.not_lt_zero l.val)]
  | succ k ih =>
    intro hk
    obtain ⟨h5, h6, h7⟩ := ih (by omega)
    have hT : k < k0_t1_loop.trips := by have := t1_trips; omega
    have hs : solved arg4 arg5 X4 k (ST (F := Ideal) c i arg1 harg1 arg2 harg2 arg3 harg3 arg4 harg4 arg5 harg5 arg6 harg6 arg7 harg7 lanes X1 X3 X4 (init5 arg2 arg5 X2) f6 (init7 arg7) k).1 r = (Xr arg1 arg2 arg3 arg4 X1 X2 X3 X4 r) k := by
      funext n
      unfold solved
      refine Eq.trans ?_ (Xr_eq arg1 arg2 arg3 arg4 X1 X2 X3 X4 r k n).symm
      refine Finset.sum_congr rfl fun kk _ => ?_
      rw [h5 k kk (by omega), if_neg (lt_irrefl _)]
    rw [show k + 1 = (⟨k, hT⟩ : Fin k0_t1_loop.trips).val + 1 from rfl, ST_succ]
    dsimp only
    refine ⟨fun p n hp => ?_, fun p n hp => ?_, fun l => ?_⟩
    · rw [trip1_read5 (hp := hp)]
      dsimp only
      rw [hs, h5 p n hp]
      by_cases h : p = k
      · subst h; rw [if_pos rfl, if_pos (by omega)]
      · rw [if_neg h]
        by_cases h' : k < p
        · rw [if_pos h', if_neg (by omega), if_neg (by omega)]; exact (Rr_succ arg1 arg2 arg3 arg4 X1 X2 X3 X4 r p k n).symm
        · rw [if_neg h', if_pos (by omega), if_pos (by omega)]
    · rw [trip1_read6 (hp := by omega)]
      dsimp only
      rw [hs]
      by_cases h : p = k
      · subst h; rw [if_pos rfl]
      · rw [if_neg h, h6 p n (by omega)]
    · rw [trip1_read7]
      dsimp only
      rw [hs, h7 l]
      by_cases h : l.val = k
      · rw [if_pos h, if_pos (by omega), h]
      · rw [if_neg h]
        by_cases h' : l.val < k
        · rw [if_pos h', if_pos (by omega)]
        · rw [if_neg h', if_neg (by omega)]

/-- What the body leaves in the three results. -/
theorem ST_x (r : Fin 128) (j : Fin 7680) : arg5.view.read (Elt Ideal) (ST (F := Ideal) c i arg1 harg1 arg2 harg2 arg3 harg3 arg4 harg4 arg5 harg5 arg6 harg6 arg7 harg7 lanes X1 X3 X4 (init5 arg2 arg5 X2) f6 (init7 arg7) k0_t1_loop.trips).1 (ix2 r j)
    = Spec.rowX (Bt arg2 X2 r) (Tl arg3 X3) (Ts arg1 X1) (Wt arg4 X4) j := by
  rw [t1_trips]
  conv_lhs => rw [eq_col j]
  rw [(ST_eq c i arg1 harg1 arg2 harg2 arg3 harg3 arg4 harg4 arg5 harg5 arg6 harg6 arg7 harg7 X1 X2 X3 X4 f6 r 60 le_rfl).1 _ _ (by omega), if_pos (by omega)]
  rfl
theorem ST_c (r : Fin 128) (j : Fin 7680) : arg6.view.read (Elt Ideal) (ST (F := Ideal) c i arg1 harg1 arg2 harg2 arg3 harg3 arg4 harg4 arg5 harg5 arg6 harg6 arg7 harg7 lanes X1 X3 X4 (init5 arg2 arg5 X2) f6 (init7 arg7) k0_t1_loop.trips).2.1 (ix2 r j)
    = Spec.rowC (Bt arg2 X2 r) (Tl arg3 X3) (Ts arg1 X1) (Wt arg4 X4) j := by
  rw [t1_trips]
  conv_lhs => rw [eq_col j]
  rw [(ST_eq c i arg1 harg1 arg2 harg2 arg3 harg3 arg4 harg4 arg5 harg5 arg6 harg6 arg7 harg7 X1 X2 X3 X4 f6 r 60 le_rfl).2.1 _ _ (by omega)]
  rfl
theorem ST_s (r : Fin 128) (l : Fin 128) : arg7.view.read (Elt Ideal) (ST (F := Ideal) c i arg1 harg1 arg2 harg2 arg3 harg3 arg4 harg4 arg5 harg5 arg6 harg6 arg7 harg7 lanes X1 X3 X4 (init5 arg2 arg5 X2) f6 (init7 arg7) k0_t1_loop.trips).2.2 (ix2 r l)
    = Spec.rowS (Bt arg2 X2 r) (Tl arg3 X3) (Ts arg1 X1) (Wt arg4 X4) l := by
  rw [t1_trips, (ST_eq c i arg1 harg1 arg2 harg2 arg3 harg3 arg4 harg4 arg5 harg5 arg6 harg6 arg7 harg7 X1 X2 X3 X4 f6 r 60 le_rfl).2.2 l]
  rfl

end Cert.Proof.KernelIdeal

end
-- ==== Proof.Whole.lean ====
/-
  The whole solution, its codes and its scales, as functions of the four argument arrays (hand-written): row `i` is the
  solution of row `i` of the right-hand sides.
-/
module

public import proofs.«01_k».proof.Proof.Spec
public import proofs.«01_k».proof.Proof.Panels

@[expose] public section

noncomputable section

namespace Cert.Proof.Whole

open Cert.Proof.Panels

variable (A : Fin 5120 → Fin 7680 → EReal) (T : Fin 1770 → Fin 128 → Fin 128 → EReal) (S : Fin 1770 → EReal)
  (D : Fin 60 → Fin 128 → Fin 128 → EReal)

/-- Row `i` of the right-hand sides by panel; the tiles, their scales and the diagonal inverses by number. -/
def rows (i : Fin 5120) (p : ℕ) (n : Fin 128) : EReal := A i (col p n)
def tiles (t : ℕ) (n k : Fin 128) : EReal := T (tn t) n k
def words (t : ℕ) : EReal := S (tn t)
def diags (b : ℕ) (n k : Fin 128) : EReal := D (bn b) n k

def solX (i : Fin 5120) (j : Fin 7680) : EReal := Spec.rowX (rows A i) (tiles T) (words S) (diags D) j
def solC (i : Fin 5120) (j : Fin 7680) : EReal := Spec.rowC (rows A i) (tiles T) (words S) (diags D) j
def solS (i : Fin 5120) (l : Fin 128) : EReal := Spec.rowS (rows A i) (tiles T) (words S) (diags D) l

end Cert.Proof.Whole

end
-- ==== Proof.KernelIdealRun.lean ====
/-
  The forward substitution's pipeline at the exact arithmetic (hand-written): every execution ends with the three outputs
  at the solution of the arguments, its codes and its scales, the arguments unchanged.
-/
module

public import proofs.«01_k».proof.Proof.KernelIdealFrame
public import proofs.«01_k».proof.Proof.KernelIdealValue
public import proofs.«01_k».proof.Proof.Whole
public import Idealize.ShloMosaic.Lib.Pipeline.Frame
public import Idealize.ShloMosaic.Lib.Tactic
public import Idealize.ShloMosaic.Lib.Pipeline.ValueKit
public import Idealize.ShloMosaic.Lib.Claim
public import Idealize.ShloMosaic.Lib.Pointwise

@[expose] public section

set_option maxRecDepth 16384
set_option maxHeartbeats 400000

noncomputable section

namespace Cert.Proof.KernelIdeal

open Cert.KernelIdeal Cert.KernelIdeal.Gen Cert.Proof Cert.Proof.Panels
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

/-! ## The blocks a point reads -/

/-- Row `r` of the point's right-hand sides; the tiles, scales and diagonal inverses. -/
def bI (c : Dev nD) (t : Fin cfg0.N) (r : Fin 128) (p : ℕ) (n : Fin 128) : EReal := iblk (F := Ideal) m c 1 t (ix2 r (col p n))
def tI (c : Dev nD) (t : Fin cfg0.N) (u : ℕ) (n k : Fin 128) : EReal := iblk (F := Ideal) m c 2 t (ix3 (tn u) n k)
def sI (c : Dev nD) (t : Fin cfg0.N) (u : ℕ) : EReal := iblk (F := Ideal) m c 0 t (ix1 (tn u))
def dI (c : Dev nD) (t : Fin cfg0.N) (b : ℕ) (n k : Fin 128) : EReal := iblk (F := Ideal) m c 3 t (ix3 (bn b) n k)

/-- What the body leaves in the three outputs' blocks. -/
def outX (c : Dev nD) (t : Fin cfg0.N) : S128x7680.Idx → EReal := fun j => Spec.rowX (bI m c t (j 0)) (tI m c t) (sI m c t) (dI m c t) (j 1)
def outC (c : Dev nD) (t : Fin cfg0.N) : S128x7680.Idx → EReal := fun j => Spec.rowC (bI m c t (j 0)) (tI m c t) (sI m c t) (dI m c t) (j 1)
def outS (c : Dev nD) (t : Fin cfg0.N) : S128x128.Idx → EReal := fun j => Spec.rowS (bI m c t (j 0)) (tI m c t) (sI m c t) (dI m c t) (j 1)

/-- The proof data on core `c`: the arrays as the region finds them; an input's buffer left at its block, an output's at
    the solution of the point's rows. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outX m c t
    | ⟨5, _⟩ => outC m c t
    | ⟨6, _⟩ => outS m c t
  Φ _ := Pipeline.ΦA spec0 c
  q _ := fullShare
  owed _ := 0

theorem vA_eq (c : Dev nD) (w : Fin cfg0.W) : (vdats m 0 c).A w = V m c (Pipeline.arrRef spec0 w) := by dsimp only [vdats]

def bodyPreV (c : Dev nD) (t : Fin cfg0.N) : sProp 𝕄 :=
  iprop((vdats m 0 c).Φ t.castSucc ∗ (vdats m 0 c).owesAt () t.castSucc
    ∗ (∃ d, owns (c : Thread nD τ) (st0_0 t) fullShare ((vdats m 0 c).before 0 t d))
    ∗ (∃ d, owns (c : Thread nD τ) (st0_1 t) fullShare ((vdats m 0 c).before 1 t d))
    ∗ (∃ d, owns (c : Thread nD τ) (st0_2 t) fullShare ((vdats m 0 c).before 2 t d))
    ∗ (∃ d, owns (c : Thread nD τ) (st0_3 t) fullShare ((vdats m 0 c).before 3 t d))
    ∗ (∃ d, owns (c : Thread nD τ) (st0_4 t) fullShare ((vdats m 0 c).before 4 t d))
    ∗ (∃ d, owns (c : Thread nD τ) (st0_5 t) fullShare ((vdats m 0 c).before 5 t d))
    ∗ (∃ d, owns (c : Thread nD τ) (st0_6 t) fullShare ((vdats m 0 c).before 6 t d)))
def bodyPostV (c : Dev nD) (t : Fin cfg0.N) : sProp 𝕄 :=
  iprop((vdats m 0 c).Φ t.succ ∗ (vdats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (outX m c t)
    ∗ owns (c : Thread nD τ) (st0_5 t) fullShare (outC m c t)
    ∗ owns (c : Thread nD τ) (st0_6 t) fullShare (outS m c t))

section
variable (c : Dev nD) (t : Fin cfg0.N)
  (f0 : BufTy.Contents (Elt Ideal) (st0_0 t).view.ty) (e0 : (st0_0 t).view.read (Elt Ideal) f0 = iblk m c 0 t)
  (f1 : BufTy.Contents (Elt Ideal) (st0_1 t).view.ty) (e1 : (st0_1 t).view.read (Elt Ideal) f1 = iblk m c 1 t)
  (f2 : BufTy.Contents (Elt Ideal) (st0_2 t).view.ty) (e2 : (st0_2 t).view.read (Elt Ideal) f2 = iblk m c 2 t)
  (f3 : BufTy.Contents (Elt Ideal) (st0_3 t).view.ty) (e3 : (st0_3 t).view.read (Elt Ideal) f3 = iblk m c 3 t)
include e0 in theorem Ts_eq : Ts (st0_0 t) f0 = sI m c t := by funext u; unfold Ts sI; rw [e0]
include e1 in theorem Bt_eq (r : Fin 128) : Bt (st0_1 t) f1 r = bI m c t r := by funext p n; unfold Bt bI; rw [e1]
include e2 in theorem Tl_eq : Tl (st0_2 t) f2 = tI m c t := by funext u n k; unfold Tl tI; rw [e2]
include e3 in theorem Wt_eq : Wt (st0_3 t) f3 = dI m c t := by funext b n k; unfold Wt dI; rw [e3]
end

/-- The body at a point: the kernel's run between the windows' staging memrefs. -/
theorem sound_bodyV (c : Dev nD) (t : Fin cfg0.N) :
    bodyPreV m c t ⊢ wp frame (wpE (defs₀ (F := Ideal)) 𝒱₀ c none) Set.univ (bodyAt0 t) (fun _ => bodyPostV m c t) := by
  unfold bodyPreV bodyPostV bodyAt0
  rw [show (vdats m 0 c).Φ t.succ = (vdats m 0 c).Φ t.castSucc from rfl,
    show (vdats m 0 c).owesAt () t.succ = (vdats m 0 c).owesAt () t.castSucc from rfl]
  have h0 := before0_0_of m (vdats m 0 c) (vA_eq m c 0) (fun _ => rfl) t
  have h1 := before0_1_of m (vdats m 0 c) (vA_eq m c 1) (fun _ => rfl) t
  have h2 := before0_2_of m (vdats m 0 c) (vA_eq m c 2) (fun _ => rfl) t
  have h3 := before0_3_of m (vdats m 0 c) (vA_eq m c 3) (fun _ => rfl) t
  simp only [h0, h1, h2, h3]
  unfold owns
  iintro ⟨HΦ, HO, ⟨%d0, %f0, %e0, H0⟩, ⟨%d1, %f1, %e1, H1⟩, ⟨%d2, %f2, %e2, H2⟩, ⟨%d3, %f3, %e3, H3⟩, ⟨%d4, %f4, -, H4⟩, ⟨%d5, %f5, -, H5⟩, ⟨%d6, %f6, -, H6⟩⟩
  iapply (kernelRun (F := Ideal) c (grid0.coords t) (st0_0 t) _ (st0_1 t) _ (st0_2 t) _ (st0_3 t) _ (st0_4 t) _ (st0_5 t) _ (st0_6 t) _ f0 f2 f3 f1 f4 f5 f6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [HO]; · iexact HO
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists _; isplitr; swap; · iexact H4
    ipureintro
    funext j
    obtain ⟨r, l, rfl⟩ : ∃ (r : Fin 128) (l : Fin 7680), j = ix2 r l := ⟨j 0, j 1, eq_ix2 (n0 := 128) (n1 := 7680) j⟩
    refine (ST_x ..).trans ?_
    rw [Ts_eq m c t f0 e0, Bt_eq m c t f1 e1, Tl_eq m c t f2 e2, Wt_eq m c t f3 e3]; rfl
  isplitl [H5]
  · iexists _; isplitr; swap; · iexact H5
    ipureintro
    funext j
    obtain ⟨r, l, rfl⟩ : ∃ (r : Fin 128) (l : Fin 7680), j = ix2 r l := ⟨j 0, j 1, eq_ix2 (n0 := 128) (n1 := 7680) j⟩
    refine (ST_c ..).trans ?_
    rw [Ts_eq m c t f0 e0, Bt_eq m c t f1 e1, Tl_eq m c t f2 e2, Wt_eq m c t f3 e3]; rfl
  iexists _; isplitr; swap; · iexact H6
  ipureintro
  funext j
  obtain ⟨r, l, rfl⟩ : ∃ (r : Fin 128) (l : Fin 128), j = ix2 r l := ⟨j 0, j 1, eq_ix2 (n0 := 128) (n1 := 128) j⟩
  refine (ST_s ..).trans ?_
  rw [Ts_eq m c t f0 e0, Bt_eq m c t f1 e1, Tl_eq m c t f2 e2, Wt_eq m c t f3 e3]; rfl

theorem body_obligationV (c : Dev nD) :
    BodyObligation (vdats m 0 c) (defs₀ (F := Ideal)) 𝒱₀ () Set.univ := fun t => by
  rw [bigSep_W0, bigSep_W0, defs₀_row]
  exact triple_restated (sound_bodyV m c t) rfl .rfl fun _ => .rfl

theorem shareV_eq (c : Dev nD) (w : Fin cfg0.W) : (vdats m 0 c).share w = fullShare := by
  unfold Dat.share; split <;> rfl

/-! ## The arrays after the run -/

/-- The four arguments by coordinates. -/
def argA (c : Dev nD) (i : Fin 5120) (j : Fin 7680) : EReal := m ((c.tc : Thread nD τ).loc main_arg0) (ix3 (0 : Fin 1) i j)
def argT (c : Dev nD) (u : Fin 1770) (n k : Fin 128) : EReal := m ((c.tc : Thread nD τ).loc main_arg1) (ix4 (0 : Fin 1) u n k)
def argS (c : Dev nD) (u : Fin 1770) : EReal := m ((c.tc : Thread nD τ).loc main_arg2) (ix2 (0 : Fin 1) u)
def argD (c : Dev nD) (b : Fin 60) (n k : Fin 128) : EReal := m ((c.tc : Thread nD τ).loc main_arg3) (ix4 (0 : Fin 1) b n k)

theorem idx0 : ∀ t : Fin cfg0.N, win0_0.index t = ![0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx1 : ∀ t : Fin cfg0.N, win0_1.index t = ![(grid0.coords t 0).val, 0] := (by decide +kernel : ∀ t : Fin grid0.N, _)

theorem bI_eq (c : Dev nD) (t : Fin cfg0.N) (r : Fin 128) (i : Fin 5120) (hi : i.val = (grid0.coords t 0).val * 128 + r.val) :
    bI m c t r = Whole.rows (argA m c) i := by
  funext p n
  unfold bI Whole.rows argA
  blk_simp [iblk, idx1]
  entry_read
  pointwise
  blk_ext [idx1]

theorem tI_eq (c : Dev nD) (t : Fin cfg0.N) : tI m c t = Whole.tiles (argT m c) := by
  funext u n k
  unfold tI Whole.tiles argT
  blk_simp [iblk, idx2]
  entry_read
  pointwise
  blk_ext [idx2]

theorem sI_eq (c : Dev nD) (t : Fin cfg0.N) : sI m c t = Whole.words (argS m c) := by
  funext u
  unfold sI Whole.words argS
  blk_simp [iblk, idx0]
  entry_read
  pointwise
  blk_ext [idx0]

theorem dI_eq (c : Dev nD) (t : Fin cfg0.N) : dI m c t = Whole.diags (argD m c) := by
  funext b n k
  unfold dI Whole.diags argD
  blk_simp [iblk, idx3]
  entry_read
  pointwise
  blk_ext [idx3]

/-- The three results. -/
def resX (c : Dev nD) : Buf (Elt Ideal) ((c.tc : Thread nD τ).loc main_v4_0) :=
  fun j : S5120x7680.Idx => (Whole.solX (argA m c) (argT m c) (argS m c) (argD m c) (j 0) (j 1) : EReal)
def resC (c : Dev nD) : Buf (Elt Ideal) ((c.tc : Thread nD τ).loc main_v4_1) :=
  fun j : S5120x7680.Idx => (Whole.solC (argA m c) (argT m c) (argS m c) (argD m c) (j 0) (j 1) : EReal)
def resS (c : Dev nD) : Buf (Elt Ideal) ((c.tc : Thread nD τ).loc main_v4_2) :=
  fun j : S5120x128.Idx => (Whole.solS (argA m c) (argT m c) (argS m c) (argD m c) (j 0) (j 1) : EReal)

theorem idx4 : ∀ t : Fin cfg0.N, win0_4.index t = ![(grid0.coords t 0).val, 0] := (by decide +kernel : ∀ t : Fin grid0.N, _)
theorem idx5 : ∀ t : Fin cfg0.N, win0_5.index t = ![(grid0.coords t 0).val, 0] := (by decide +kernel : ∀ t : Fin grid0.N, _)
theorem idx6 : ∀ t : Fin cfg0.N, win0_6.index t = ![(grid0.coords t 0).val, 0] := (by decide +kernel : ∀ t : Fin grid0.N, _)

theorem final_x (c : Dev nD) : (vdats m 0 c).arrAt 4 cfg0.N = resX m c := by
  refine (vdats m 0 c).arrAt_eq_of_covers 4 _ (by decide +kernel) fun t hf y => ?_
  blk_simp
  obtain ⟨r, l, rfl⟩ : ∃ (r : Fin 128) (l : Fin 7680), y = ix2 r l := ⟨y 0, y 1, eq_ix2 (n0 := 128) (n1 := 7680) y⟩
  show Spec.rowX (bI m c t r) (tI m c t) (sI m c t) (dI m c t) l = _
  unfold resX Whole.solX
  rw [bI_eq m c t r (((win0_4.blk t).view.emb (ix2 r l)) 0) (by blk_simp [idx4]), tI_eq, sI_eq, dI_eq]
  refine congrArg _ (Fin.ext ?_)
  blk_simp [idx4]
  try omega

theorem final_c (c : Dev nD) : (vdats m 0 c).arrAt 5 cfg0.N = resC m c := by
  refine (vdats m 0 c).arrAt_eq_of_covers 5 _ (by decide +kernel) fun t hf y => ?_
  blk_simp
  obtain ⟨r, l, rfl⟩ : ∃ (r : Fin 128) (l : Fin 7680), y = ix2 r l := ⟨y 0, y 1, eq_ix2 (n0 := 128) (n1 := 7680) y⟩
  show Spec.rowC (bI m c t r) (tI m c t) (sI m c t) (dI m c t) l = _
  unfold resC Whole.solC
  rw [bI_eq m c t r (((win0_5.blk t).view.emb (ix2 r l)) 0) (by blk_simp [idx5]), tI_eq, sI_eq, dI_eq]
  refine congrArg _ (Fin.ext ?_)
  blk_simp [idx5]
  try omega

theorem final_s (c : Dev nD) : (vdats m 0 c).arrAt 6 cfg0.N = resS m c := by
  refine (vdats m 0 c).arrAt_eq_of_covers 6 _ (by decide +kernel) fun t hf y => ?_
  blk_simp
  obtain ⟨r, l, rfl⟩ : ∃ (r : Fin 128) (l : Fin 128), y = ix2 r l := ⟨y 0, y 1, eq_ix2 (n0 := 128) (n1 := 128) y⟩
  show Spec.rowS (bI m c t r) (tI m c t) (sI m c t) (dI m c t) l = _
  unfold resS Whole.solS
  rw [bI_eq m c t r (((win0_6.blk t).view.emb (ix2 r l)) 0) (by blk_simp [idx6]), tI_eq, sI_eq, dI_eq]
  refine congrArg _ (Fin.ext ?_)
  blk_simp [idx6]
  try omega

set_option backward.isDefEq.respectTransparency.types false in
/-- Every execution ends with the three results at the solution, its codes and its scales, the arguments unchanged. -/
theorem run_value :
    θ_run defs (onTc (τ := τ) (main (F := Ideal))) ⟨m, fun _ => 0, ρ⟩ (fun r => ∀ c : Dev nD,
      r.2.mem ((c.tc : Thread nD τ).loc main_v4_0) = resX m c
      ∧ r.2.mem ((c.tc : Thread nD τ).loc main_v4_1) = resC m c
      ∧ r.2.mem ((c.tc : Thread nD τ).loc main_v4_2) = resS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_frame cfgs (vdats m) (0 : Fin 1) launch0 defs₀ 𝒱₀ m ρ main
    (fun c => (body_obligationV m c).loose) (shareV_eq m) (fun _ _ => rfl) (V m) (hmain m 𝒱₀) (vA_eq m) (fun _ _ => rfl)
    (Q' := _)
    (hQ' := fun _ h c => ⟨((h.1 c).1 4).trans (final_x m c), ((h.1 c).1 5).trans (final_c m c), ((h.1 c).1 6).trans (final_s m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩)

end Cert.Proof.KernelIdeal

end
-- ==== Proof.ReferenceIdealPay.lean ====
/-
  The reference body's stored values at an index, at the exact arithmetic (hand-written).
-/
module

public import proofs.«01_k».proof.Proof.Gen.ReferenceIdeal.Skeleton
public import proofs.«01_k».proof.Proof.Spec
public import Idealize.ShloMosaic.Lib.Pointwise

@[expose] public section

set_option maxRecDepth 16384
set_option maxHeartbeats 400000

noncomputable section

namespace Cert.Proof.ReferenceIdeal

open Cert.ReferenceIdeal Cert.ReferenceIdeal.Gen Cert.Proof
open Idealize.ShloMosaic Idealize.ShloMosaic.TcCoe

theorem pay1_apply (j : S5120x128.Idx) : k0_pay1 (F := Ideal) j = 0 := by
  unfold k0_pay1
  exact Scale.ofBits_zero

/-- A solved panel: what is left of its right-hand sides times the inverse of the diagonal block. -/
theorem pay11_apply (v : FVec Ideal S5120x128 .f32) (w : Vec Ideal S1x128x128 .f32) (r : Fin 5120) (n : Fin 128) :
    k0_pay11 (F := Ideal) v w (ix2 r n) = ∑ k : Fin 128, v (ix2 r k) * w (ix3 (0 : Fin 1) n k) := by
  unfold k0_pay11
  pointwise

/-- A row's exponent. -/
theorem pay12_apply (v : FVec Ideal S5120x128 .f32) (w : Vec Ideal S1x128x128 .f32) (r : Fin 5120) :
    k0_pay12 (F := Ideal) v w (ix2 r (0 : Fin 1)) = Scale.expo (Spec.amax fun n => k0_pay11 (F := Ideal) v w (ix2 r n)) := by
  unfold k0_pay12 Spec.amax Scale.expo
  pointwise
  rfl

/-- The inverse of a row's scale. -/
theorem pay13_apply (v : FVec Ideal S5120x128 .f32) (w : Vec Ideal S1x128x128 .f32) (r : Fin 5120) (n : Fin 128) :
    k0_pay13 (F := Ideal) v w (ix2 r n) = Scale.inv (Spec.amax fun n => k0_pay11 (F := Ideal) v w (ix2 r n)) := by
  unfold Scale.inv
  rw [← pay12_apply]
  unfold k0_pay13
  pointwise
  rfl

/-- A row's codes. -/
theorem pay2_apply (v : FVec Ideal S5120x128 .f32) (w : Vec Ideal S1x128x128 .f32) (r : Fin 5120) (n : Fin 128) :
    k0_pay2 (F := Ideal) (k0_pay11 v w) (k0_pay13 v w) (ix2 r n) = Spec.code (fun n => k0_pay11 (F := Ideal) v w (ix2 r n)) n := by
  unfold Spec.code
  rw [← pay13_apply v w r n]
  unfold k0_pay2
  pointwise

/-- The scales: the solved panel's lane takes its scale. -/
theorem pay3_apply (b : BitVec 32) (v : FVec Ideal S5120x128 .f32) (w : Vec Ideal S1x128x128 .f32) (old : Vec Ideal S5120x128 .f32) (r : Fin 5120) (l : Fin 128) :
    k0_pay3 (F := Ideal) b (k0_pay12 v w) old (ix2 r l)
      = if BitVec.ofNat 32 l.val = b then Spec.sc (fun n => k0_pay11 (F := Ideal) v w (ix2 r n)) else old (ix2 r l) := by
  unfold Spec.sc Scale.scale
  rw [← pay12_apply]
  unfold k0_pay3
  pointwise
  by_cases h : BitVec.ofNat 32 l.val = b
  · simp [h, Scalar.select, IntOp.cmpi]
    rfl
  · have h' : (BitVec.ofNat 32 l.val == b) = false := by simpa using h
    simp [h, h', Scalar.select, IntOp.cmpi]

/-- An earlier panel's codes times a tile. -/
theorem pay4_apply (q : Vec Ideal S5120x128 .fp8e4m3) (t : Vec Ideal S1x128x128 .fp8e4m3) (r : Fin 5120) (n : Fin 128) :
    k0_pay4 (F := Ideal) q t (ix2 r n) = ∑ k : Fin 128, q (ix2 r k) * t (ix3 (0 : Fin 1) n k) := by
  unfold k0_pay4
  pointwise

/-- An earlier panel's scale: the sum of the lanes, all but its own at zero. -/
theorem pay5_apply (v2 : IVec S5120x128 32) (k : Fin k0_t1_loop.trips) (a b : BitVec 32) (j : Fin (k0_t2_loop k).trips)
    (v : Vec Ideal S5120x128 .f32) (r : Fin 5120) :
    k0_pay5 (F := Ideal) v2 k a b j v (ix1 r) = ∑ l : Fin 128, if v2 (ix2 r l) = Scf.iv a b j then v (ix2 r l) else 0 := by
  unfold k0_pay5
  pointwise
  refine Finset.sum_congr rfl fun l _ => ?_
  by_cases h : v2 (ix2 r l) = Scf.iv a b j
  · simp [h, Scalar.select, IntOp.cmpi]
  · have h' : (v2 (ix2 r l) == Scf.iv a b j) = false := by simpa using h
    simp [h, h', Scalar.select, IntOp.cmpi]
    try exact Scale.ofBits_zero

theorem pay8_eq (v : Vec Ideal S5120x128 .f32) : k0_pay8 (F := Ideal) v = v := by
  unfold k0_pay8
  exact shapeCast_id _ _

/-- The running panel less an earlier one's contribution. -/
theorem pay9_apply (acc p : FVec Ideal S5120x128 .f32) (s : FVec Ideal S5120 .f32) (w : EReal) (r : Fin 5120) (n : Fin 128) :
    k0_pay9 (F := Ideal) acc p s w (ix2 r n) = acc (ix2 r n) + -((p (ix2 r n) * w) * s (ix1 r)) := by
  unfold k0_pay9
  pointwise
  rw [zero_sub]

end Cert.Proof.ReferenceIdeal

end
-- ==== Proof.ReferenceIdealTrip.lean ====
/-
  One trip of the reference's loops at the exact arithmetic, read at a row and a panel's column (hand-written).
-/
module

public import proofs.«01_k».proof.Proof.ReferenceIdealLoop
public import proofs.«01_k».proof.Proof.ReferenceIdealPay
public import proofs.«01_k».proof.Proof.Panels

@[expose] public section

set_option maxRecDepth 16384
set_option maxHeartbeats 400000

noncomputable section

namespace Cert.Proof.ReferenceIdeal

open Cert.ReferenceIdeal Cert.ReferenceIdeal.Gen Cert.Proof Cert.Proof.Panels
open Idealize.ShloMosaic Idealize.ShloMosaic.TcCoe Idealize.ShloMosaic.Tactic

/-! ## The loops' words -/

theorem t1_trips : k0_t1_loop.trips = 60 := by decide +kernel
theorem t2_trips : ∀ k : Fin k0_t1_loop.trips, (k0_t2_loop k).trips = k.val := by decide +kernel
theorem t3_trips : ∀ k : Fin k0_t1_loop.trips, (k0_t3_loop k).trips = 0 := by decide +kernel
theorem off1_eq : ∀ k : Fin k0_t1_loop.trips, k0_off1 k = ![0, 128 * k.val] := by decide +kernel
theorem off2_eq : ∀ (k : Fin k0_t1_loop.trips) (j : Fin (k0_t2_loop k).trips), k0_off2 k j = ![0, 128 * j.val] := by decide +kernel
theorem off3_eq : ∀ (k : Fin k0_t1_loop.trips) (j : Fin (k0_t2_loop k).trips), k0_off3 k j = ![Spec.tileNo j.val k.val, 0, 0] := by decide +kernel
theorem off4_eq : ∀ (k : Fin k0_t1_loop.trips) (j : Fin (k0_t2_loop k).trips), k0_off4 k j = ![0, Spec.tileNo j.val k.val] := by decide +kernel
theorem off8_eq : ∀ k : Fin k0_t1_loop.trips, k0_off8 k = ![k.val, 0, 0] := by decide +kernel
theorem tileNo_lt : ∀ (k : Fin k0_t1_loop.trips) (j : Fin (k0_t2_loop k).trips), Spec.tileNo j.val k.val < 1770 := by decide +kernel
theorem lane_word1 : ∀ (k : Fin k0_t1_loop.trips) (l : Fin 128), (BitVec.ofNat 32 l.val = Scf.iv 0#32 1#32 k) ↔ l.val = k.val := by decide +kernel
theorem iv2_eq : ∀ (k : Fin k0_t1_loop.trips) (j : Fin (k0_t2_loop k).trips), Scf.iv 0#32 1#32 j = BitVec.ofNat 32 j.val := by decide +kernel
theorem lane_word2 : ∀ (l l' : Fin 128), (BitVec.ofNat 32 l.val = BitVec.ofNat 32 l'.val) ↔ l = l' := by decide +kernel

variable (c : Dev nD) (arg0 : Memref sig .tc .vmem S5120x7680 .f32) (harg0 : arg0.IsWhole) (arg1 : Memref sig .tc .vmem S1770x128x128 .fp8e4m3) (harg1 : arg1.IsWhole) (arg2 : Memref sig .tc .smem S1x1770 .f32) (harg2 : arg2.IsWhole) (arg3 : Memref sig .tc .vmem S60x128x128 .f32) (harg3 : arg3.IsWhole) (arg4 : Memref sig .tc .vmem S5120x7680 .f32) (harg4 : arg4.IsWhole) (arg5 : Memref sig .tc .vmem S5120x7680 .fp8e4m3) (harg5 : arg5.IsWhole) (arg6 : Memref sig .tc .vmem S5120x128 .f32) (harg6 : arg6.IsWhole)
  (X0 : BufTy.Contents (Elt Ideal) arg0.view.ty) (X1 : BufTy.Contents (Elt Ideal) arg1.view.ty) (X2 : BufTy.Contents (Elt Ideal) arg2.view.ty) (X3 : BufTy.Contents (Elt Ideal) arg3.view.ty)

/-- Row `r` of the right-hand sides; tile `t`, scale `t` and diagonal block `b`, as the body reads them. -/
def Bt (r : Fin 5120) (p : ℕ) (n : Fin 128) : EReal := arg0.view.read (Elt Ideal) X0 (ix2 r (col p n))
def Tl (t : ℕ) (n k : Fin 128) : EReal := arg1.view.read (Elt Ideal) X1 (ix3 (tn t) n k)
def Ts (t : ℕ) : EReal := arg2.view.read (Elt Ideal) X2 (ix2 (0 : Fin 1) (tn t))
def Wt (b : ℕ) (n k : Fin 128) : EReal := arg3.view.read (Elt Ideal) X3 (ix3 (bn b) n k)

/-! ## The inner loop: the panel less each earlier panel's contribution -/

/-- What the inner loop's trip yields. -/
theorem tripR_eq (k : Fin k0_t1_loop.trips) (w : BitVec 32) (j : Fin (k0_t2_loop k).trips) (l : Fin 128) (hl : l.val = j.val)
    (f5 : BufTy.Contents (Elt Ideal) arg5.view.ty) (f6 : BufTy.Contents (Elt Ideal) arg6.view.ty) (acc : FVec Ideal S5120x128 .f32) (r : Fin 5120) (n : Fin 128) :
    tripR_k0_t2 (F := Ideal) 𝒱₀ c none arg0 harg0 arg1 harg1 arg2 harg2 arg3 harg3 arg4 harg4 arg5 harg5 arg6 harg6 lanes 0#32 1#32 k w X1 X2 f5 f6 j acc (ix2 r n)
      = acc (ix2 r n) + -(((∑ kk : Fin 128, arg5.view.read (Elt Ideal) f5 (ix2 r (col j.val kk)) * Tl arg1 X1 (Spec.tileNo j.val k.val) n kk)
          * Ts arg2 X2 (Spec.tileNo j.val k.val)) * arg6.view.read (Elt Ideal) f6 (ix2 r l)) := by
  have hj : j.val < 60 := by have := j.isLt; have := t2_trips k; have := k.isLt; have := t1_trips; omega
  have ht := tileNo_lt k j
  have e : tripR_k0_t2 (F := Ideal) 𝒱₀ c none arg0 harg0 arg1 harg1 arg2 harg2 arg3 harg3 arg4 harg4 arg5 harg5 arg6 harg6 lanes 0#32 1#32 k w X1 X2 f5 f6 j acc
      = k0_pay9 (F := Ideal) acc
          (k0_pay4 (F := Ideal) (arg5.view.readAt (Elt Ideal) (Rect.unit (s := S5120x7680) (k0_off2 k j) ![5120, 128] (k0_off2_inb k j)).toLoadRect f5)
            (arg1.view.readAt (Elt Ideal) (Rect.unit (s := S1770x128x128) (k0_off3 k j) ![1, 128, 128] (k0_off3_inb k j)).toLoadRect X1))
          (k0_pay5 (F := Ideal) lanes k 0#32 1#32 j (arg6.view.readAt (Elt Ideal) (Rect.unit (s := S5120x128) ![0, 0] S5120x128.size inb_S5120x128_S5120x128_0_0).toLoadRect f6))
          (arg2.view.readAt (Elt Ideal) (Rect.unit (s := S1x1770) (k0_off4 k j) S1x1.size (k0_off4_inb k j)).toLoadRect X2 (Shape.Idx.first (show 0 < S1x1.numel by decide))) := by
    unfold tripR_k0_t2 trip_k0_t2
    dsimp only
    sl_unfold_words
    rfl
  rw [e, pay9_apply, pay4_apply, pay5_apply]
  have e1 : ∀ kk : Fin 128, arg5.view.readAt (Elt Ideal) (Rect.unit (s := S5120x7680) (k0_off2 k j) ![5120, 128] (k0_off2_inb k j)).toLoadRect f5 (ix2 r kk)
      = arg5.view.read (Elt Ideal) f5 (ix2 r (col j.val kk)) := fun kk =>
    readAt_panel arg5.view f5 j.val hj (k0_off2 k j) (off2_eq k j) (k0_off2_inb k j) r kk
  have e2 : ∀ kk : Fin 128, arg1.view.readAt (Elt Ideal) (Rect.unit (s := S1770x128x128) (k0_off3 k j) ![1, 128, 128] (k0_off3_inb k j)).toLoadRect X1 (ix3 (0 : Fin 1) n kk)
      = Tl arg1 X1 (Spec.tileNo j.val k.val) n kk := fun kk =>
    (readAt_tile arg1.view X1 (tn (Spec.tileNo j.val k.val)) (k0_off3 k j) (by rw [off3_eq k j, tn_val ht]) (k0_off3_inb k j) n kk).trans rfl
  have e3 : arg2.view.readAt (Elt Ideal) (Rect.unit (s := S1x1770) (k0_off4 k j) S1x1.size (k0_off4_inb k j)).toLoadRect X2 (Shape.Idx.first (show 0 < S1x1.numel by decide))
      = Ts arg2 X2 (Spec.tileNo j.val k.val) :=
    (readAt_word2 arg2.view X2 (tn (Spec.tileNo j.val k.val)) (k0_off4 k j) (by rw [off4_eq k j, tn_val ht]) (k0_off4_inb k j) _).trans rfl
  have e4 : (∑ l' : Fin 128, if lanes (ix2 r l') = Scf.iv 0#32 1#32 j then
        arg6.view.readAt (Elt Ideal) (Rect.unit (s := S5120x128) ![0, 0] S5120x128.size inb_S5120x128_S5120x128_0_0).toLoadRect f6 (ix2 r l') else 0)
      = arg6.view.read (Elt Ideal) f6 (ix2 r l) := by
    rw [Finset.sum_eq_single l]
    · rw [View.readAt_full, if_pos]
      rw [iv2_eq k j, ← hl]; unfold lanes; rw [iota_single_apply]; rfl
    · intro l' _ hne
      rw [if_neg]
      rw [iv2_eq k j, ← hl]
      have : lanes (ix2 r l') = BitVec.ofNat 32 l'.val := by unfold lanes; rw [iota_single_apply]; rfl
      rw [this, lane_word2]
      exact hne
    · intro h; exact absurd (Finset.mem_univ _) h
  rw [e3, e4]
  simp only [e1, e2]

/-- The running panel before the inner loop's trip `j`, where the earlier panels are solved. -/
theorem st_t2_eq (b : ℕ → Fin 128 → EReal) (W : ℕ → Fin 128 → Fin 128 → EReal) (k : Fin k0_t1_loop.trips) (w : BitVec 32)
    (f5 : BufTy.Contents (Elt Ideal) arg5.view.ty) (f6 : BufTy.Contents (Elt Ideal) arg6.view.ty) (init : FVec Ideal S5120x128 .f32) (r : Fin 5120)
    (h5 : ∀ (p : ℕ) (n : Fin 128), p < k.val → arg5.view.read (Elt Ideal) f5 (ix2 r (col p n)) = Spec.code (Spec.X b (Tl arg1 X1) (Ts arg2 X2) W p) n)
    (h6 : ∀ l : Fin 128, l.val < k.val → arg6.view.read (Elt Ideal) f6 (ix2 r l) = Spec.sc (Spec.X b (Tl arg1 X1) (Ts arg2 X2) W l.val))
    (h0 : ∀ n : Fin 128, init (ix2 r n) = b k.val n) (n : Fin 128) :
    ∀ j : ℕ, j ≤ (k0_t2_loop k).trips →
      st_k0_t2 (F := Ideal) 𝒱₀ c none arg0 harg0 arg1 harg1 arg2 harg2 arg3 harg3 arg4 harg4 arg5 harg5 arg6 harg6 lanes 0#32 1#32 k w X1 X2 f5 f6 init j (ix2 r n) = Spec.R b (Tl arg1 X1) (Ts arg2 X2) W k.val j n := by
  intro j
  induction j with
  | zero =>
    intro _
    rw [Spec.R_zero, ← h0]
    rfl
  | succ j ih =>
    intro hj
    have hk := k.isLt
    have h1 := t1_trips
    have h2 := t2_trips k
    rw [show j + 1 = (⟨j, hj⟩ : Fin (k0_t2_loop k).trips).val + 1 from rfl, st_k0_t2_succ]
    rw [tripR_eq (l := (⟨j, by omega⟩ : Fin 128)) (hl := rfl)]
    dsimp only
    rw [ih (Nat.le_of_lt hj), Spec.R_succ, h6 _ (by show j < k.val; omega)]
    simp only [h5 j _ (by omega)]
    rfl

/-! ## The outer loop's trip -/

section
variable (k : Fin k0_t1_loop.trips)
    (f4 : BufTy.Contents (Elt Ideal) arg4.view.ty) (f5 : BufTy.Contents (Elt Ideal) arg5.view.ty) (f6 : BufTy.Contents (Elt Ideal) arg6.view.ty)

/-- The panel trip `k` starts from, the inverse of its diagonal block, and what is left of the panel after the inner loop. -/
def ldB : Vec Ideal S5120x128 .f32 :=
  k0_pay8 (F := Ideal) (arg0.view.readAt (Elt Ideal) (Rect.unit (s := S5120x7680) (k0_off1 k) ![5120, 128] (k0_off1_inb k)).toLoadRect X0)
def ldW : Vec Ideal S1x128x128 .f32 :=
  arg3.view.readAt (Elt Ideal) (Rect.unit (s := S60x128x128) (k0_off8 k) ![1, 128, 128] (k0_off8_inb k)).toLoadRect X3
def left : FVec Ideal S5120x128 .f32 :=
  st_k0_t3 (F := Ideal) 𝒱₀ c none arg0 harg0 arg1 harg1 arg2 harg2 arg3 harg3 arg4 harg4 arg5 harg5 arg6 harg6 lanes 0#32 1#32 k (Scf.iv 0#32 1#32 k)
    (Scalar.addi 0#32 (Scalar.muli (Scalar.divsi (Scalar.subi (Scf.iv 0#32 1#32 k) 0#32) 1#32) 1#32)) X1 X2 f5 f6
    (st_k0_t2 (F := Ideal) 𝒱₀ c none arg0 harg0 arg1 harg1 arg2 harg2 arg3 harg3 arg4 harg4 arg5 harg5 arg6 harg6 lanes 0#32 1#32 k (Scf.iv 0#32 1#32 k) X1 X2 f5 f6 (ldB arg0 X0 k) (k0_t2_loop k).trips)
    (k0_t3_loop k).trips

theorem trip1_fst : (trip1 (F := Ideal) c arg0 harg0 arg1 harg1 arg2 harg2 arg3 harg3 arg4 harg4 arg5 harg5 arg6 harg6 X0 X1 X2 X3 k).1 f4 f5 f6
      = arg4.view.writes (Elt Ideal) f4 [⟨Rect.unit (s := S5120x7680) (k0_off1 k) ![5120, 128] (k0_off1_inb k),
          k0_pay11 (F := Ideal) (left c arg0 harg0 arg1 harg1 arg2 harg2 arg3 harg3 arg4 harg4 arg5 harg5 arg6 harg6 X0 X1 X2 k f5 f6) (ldW arg3 X3 k)⟩] := by
  unfold trip1 left ldB ldW
  dsimp only
  sl_unfold_words
  rfl

theorem trip1_snd : (trip1 (F := Ideal) c arg0 harg0 arg1 harg1 arg2 harg2 arg3 harg3 arg4 harg4 arg5 harg5 arg6 harg6 X0 X1 X2 X3 k).2.1 f4 f5 f6
      = arg5.view.writes (Elt Ideal) f5 [⟨Rect.unit (s := S5120x7680) (k0_off1 k) ![5120, 128] (k0_off1_inb k),
          k0_pay2 (F := Ideal) (k0_pay11 (left c arg0 harg0 arg1 harg1 arg2 harg2 arg3 harg3 arg4 harg4 arg5 harg5 arg6 harg6 X0 X1 X2 k f5 f6) (ldW arg3 X3 k)) (k0_pay13 (left c arg0 harg0 arg1 harg1 arg2 harg2 arg3 harg3 arg4 harg4 arg5 harg5 arg6 harg6 X0 X1 X2 k f5 f6) (ldW arg3 X3 k))⟩] := by
  unfold trip1 left ldB ldW
  dsimp only
  sl_unfold_words
  rfl

theorem trip1_thd : (trip1 (F := Ideal) c arg0 harg0 arg1 harg1 arg2 harg2 arg3 harg3 arg4 harg4 arg5 harg5 arg6 harg6 X0 X1 X2 X3 k).2.2.1 f4 f5 f6
      = arg6.view.writes (Elt Ideal) f6 [⟨Rect.unit (s := S5120x128) ![0, 0] S5120x128.size inb_S5120x128_S5120x128_0_0,
          k0_pay3 (F := Ideal) (Scf.iv 0#32 1#32 k) (k0_pay12 (left c arg0 harg0 arg1 harg1 arg2 harg2 arg3 harg3 arg4 harg4 arg5 harg5 arg6 harg6 X0 X1 X2 k f5 f6) (ldW arg3 X3 k))
            (arg6.view.readAt (Elt Ideal) (Rect.unit (s := S5120x128) ![0, 0] S5120x128.size inb_S5120x128_S5120x128_0_0).toLoadRect f6)⟩] := by
  unfold trip1 left ldB ldW
  dsimp only
  sl_unfold_words
  rfl

/-- The panel the trip solves, row by row. -/
def solved (r : Fin 5120) : Fin 128 → EReal := fun n =>
  k0_pay11 (F := Ideal) (left c arg0 harg0 arg1 harg1 arg2 harg2 arg3 harg3 arg4 harg4 arg5 harg5 arg6 harg6 X0 X1 X2 k f5 f6) (ldW arg3 X3 k) (ix2 r n)

/-- Where the earlier panels are solved, it is this panel of the solution. -/
theorem solved_eq (r : Fin 5120)
    (h5 : ∀ (p : ℕ) (n : Fin 128), p < k.val → arg5.view.read (Elt Ideal) f5 (ix2 r (col p n)) = Spec.code (Spec.X (Bt arg0 X0 r) (Tl arg1 X1) (Ts arg2 X2) (Wt arg3 X3) p) n)
    (h6 : ∀ l : Fin 128, l.val < k.val → arg6.view.read (Elt Ideal) f6 (ix2 r l) = Spec.sc (Spec.X (Bt arg0 X0 r) (Tl arg1 X1) (Ts arg2 X2) (Wt arg3 X3) l.val)) :
    solved c arg0 harg0 arg1 harg1 arg2 harg2 arg3 harg3 arg4 harg4 arg5 harg5 arg6 harg6 X0 X1 X2 X3 k f5 f6 r = Spec.X (Bt arg0 X0 r) (Tl arg1 X1) (Ts arg2 X2) (Wt arg3 X3) k.val := by
  have hk : k.val < 60 := by have := k.isLt; have := t1_trips; omega
  have h3 : ∀ w w' init m, m = 0 → st_k0_t3 (F := Ideal) 𝒱₀ c none arg0 harg0 arg1 harg1 arg2 harg2 arg3 harg3 arg4 harg4 arg5 harg5 arg6 harg6 lanes 0#32 1#32 k w w' X1 X2 f5 f6 init m = init := by
    rintro _ _ _ _ rfl; rfl
  have hB : ∀ n : Fin 128, ldB arg0 X0 k (ix2 r n) = Bt arg0 X0 r k.val n := by
    intro n
    unfold ldB
    rw [pay8_eq]
    exact (readAt_panel arg0.view X0 k.val hk (k0_off1 k) (off1_eq k) (k0_off1_inb k) r n).trans rfl
  have hW : ∀ n kk : Fin 128, ldW arg3 X3 k (ix3 (0 : Fin 1) n kk) = Wt arg3 X3 k.val n kk := by
    intro n kk
    unfold ldW
    exact (readAt_tile arg3.view X3 (bn k.val) (k0_off8 k) (by rw [off8_eq k, bn_val hk]) (k0_off8_inb k) n kk).trans rfl
  funext n
  unfold solved
  rw [pay11_apply, Spec.X_eq]
  refine Finset.sum_congr rfl fun kk _ => ?_
  rw [hW]
  congr 1
  unfold left
  rw [h3 _ _ _ _ (t3_trips k)]
  rw [st_t2_eq c arg0 harg0 arg1 harg1 arg2 harg2 arg3 harg3 arg4 harg4 arg5 harg5 arg6 harg6 X1 X2 (Bt arg0 X0 r) (Wt arg3 X3) k _ f5 f6 _ r h5 h6 hB kk _ le_rfl, t2_trips k]

/-- What the trip leaves in the three results: the solved panel, its codes, its scales' lane. -/
theorem trip1_read4 (r : Fin 5120) (p : ℕ) (hp : p < 60) (n : Fin 128) :
    arg4.view.read (Elt Ideal) ((trip1 (F := Ideal) c arg0 harg0 arg1 harg1 arg2 harg2 arg3 harg3 arg4 harg4 arg5 harg5 arg6 harg6 X0 X1 X2 X3 k).1 f4 f5 f6) (ix2 r (col p n))
      = if p = k.val then solved c arg0 harg0 arg1 harg1 arg2 harg2 arg3 harg3 arg4 harg4 arg5 harg5 arg6 harg6 X0 X1 X2 X3 k f5 f6 r n else arg4.view.read (Elt Ideal) f4 (ix2 r (col p n)) := by
  have hk : k.val < 60 := by have := k.isLt; have := t1_trips; omega
  rw [trip1_fst, read_writes_panel arg4.view f4 k.val hk (k0_off1 k) (off1_eq k) (k0_off1_inb k) _ [] r p hp n]
  rfl

theorem trip1_read5 (r : Fin 5120) (p : ℕ) (hp : p < 60) (n : Fin 128) :
    arg5.view.read (Elt Ideal) ((trip1 (F := Ideal) c arg0 harg0 arg1 harg1 arg2 harg2 arg3 harg3 arg4 harg4 arg5 harg5 arg6 harg6 X0 X1 X2 X3 k).2.1 f4 f5 f6) (ix2 r (col p n))
      = if p = k.val then Spec.code (solved c arg0 harg0 arg1 harg1 arg2 harg2 arg3 harg3 arg4 harg4 arg5 harg5 arg6 harg6 X0 X1 X2 X3 k f5 f6 r) n else arg5.view.read (Elt Ideal) f5 (ix2 r (col p n)) := by
  have hk : k.val < 60 := by have := k.isLt; have := t1_trips; omega
  rw [trip1_snd, read_writes_panel arg5.view f5 k.val hk (k0_off1 k) (off1_eq k) (k0_off1_inb k) _ [] r p hp n]
  rw [pay2_apply]
  rfl

theorem trip1_read6 (r : Fin 5120) (l : Fin 128) :
    arg6.view.read (Elt Ideal) ((trip1 (F := Ideal) c arg0 harg0 arg1 harg1 arg2 harg2 arg3 harg3 arg4 harg4 arg5 harg5 arg6 harg6 X0 X1 X2 X3 k).2.2.1 f4 f5 f6) (ix2 r l)
      = if l.val = k.val then Spec.sc (solved c arg0 harg0 arg1 harg1 arg2 harg2 arg3 harg3 arg4 harg4 arg5 harg5 arg6 harg6 X0 X1 X2 X3 k f5 f6 r) else arg6.view.read (Elt Ideal) f6 (ix2 r l) := by
  rw [trip1_thd, View.read_writes_full, pay3_apply, View.readAt_full]
  simp only [lane_word1]
  rfl

end

end Cert.Proof.ReferenceIdeal

end
-- ==== Proof.ReferenceIdealValue.lean ====
/-
  The reference's outer loop at the exact arithmetic (hand-written): what the three results hold before trip `k`, row by
  row, and so what the body leaves in them.
-/
module

public import proofs.«01_k».proof.Proof.ReferenceIdealTrip

@[expose] public section

set_option maxRecDepth 16384
set_option maxHeartbeats 400000

noncomputable section

namespace Cert.Proof.ReferenceIdeal

open Cert.ReferenceIdeal Cert.ReferenceIdeal.Gen Cert.Proof Cert.Proof.Panels
open Idealize.ShloMosaic Idealize.ShloMosaic.TcCoe Idealize.ShloMosaic.Tactic

variable (c : Dev nD) (arg0 : Memref sig .tc .vmem S5120x7680 .f32) (harg0 : arg0.IsWhole) (arg1 : Memref sig .tc .vmem S1770x128x128 .fp8e4m3) (harg1 : arg1.IsWhole) (arg2 : Memref sig .tc .smem S1x1770 .f32) (harg2 : arg2.IsWhole) (arg3 : Memref sig .tc .vmem S60x128x128 .f32) (harg3 : arg3.IsWhole) (arg4 : Memref sig .tc .vmem S5120x7680 .f32) (harg4 : arg4.IsWhole) (arg5 : Memref sig .tc .vmem S5120x7680 .fp8e4m3) (harg5 : arg5.IsWhole) (arg6 : Memref sig .tc .vmem S5120x128 .f32) (harg6 : arg6.IsWhole)
  (X0 : BufTy.Contents (Elt Ideal) arg0.view.ty) (X1 : BufTy.Contents (Elt Ideal) arg1.view.ty) (X2 : BufTy.Contents (Elt Ideal) arg2.view.ty) (X3 : BufTy.Contents (Elt Ideal) arg3.view.ty)
  (f4 : BufTy.Contents (Elt Ideal) arg4.view.ty) (f5 : BufTy.Contents (Elt Ideal) arg5.view.ty)

theorem init6_read (j : S5120x128.Idx) : arg6.view.read (Elt Ideal) (init6 (F := Ideal) arg6) j = 0 := by
  unfold init6
  rw [View.read_writes_full, pay1_apply]

theorem ST_zero (G4 : BufTy.Contents (Elt Ideal) arg4.view.ty) (G5 : BufTy.Contents (Elt Ideal) arg5.view.ty) (G6 : BufTy.Contents (Elt Ideal) arg6.view.ty) :
    ST (F := Ideal) c arg0 harg0 arg1 harg1 arg2 harg2 arg3 harg3 arg4 harg4 arg5 harg5 arg6 harg6 X0 X1 X2 X3 G4 G5 G6 0 = (G4, G5, G6) := rfl

/-- Row `r` of the solution. -/
def Xr (r : Fin 5120) : ℕ → Fin 128 → EReal := Spec.X (Bt arg0 X0 r) (Tl arg1 X1) (Ts arg2 X2) (Wt arg3 X3)

/-- The three results before trip `k`: the first `k` panels solved, their codes, their scales, and zeros. -/
theorem ST_eq (r : Fin 5120) : ∀ k : ℕ, k ≤ 60 →
    (∀ (p : ℕ) (n : Fin 128), p < k → arg4.view.read (Elt Ideal) (ST (F := Ideal) c arg0 harg0 arg1 harg1 arg2 harg2 arg3 harg3 arg4 harg4 arg5 harg5 arg6 harg6 X0 X1 X2 X3 f4 f5 (init6 arg6) k).1 (ix2 r (col p n)) = Xr arg0 arg1 arg2 arg3 X0 X1 X2 X3 r p n)
    ∧ (∀ (p : ℕ) (n : Fin 128), p < k → arg5.view.read (Elt Ideal) (ST (F := Ideal) c arg0 harg0 arg1 harg1 arg2 harg2 arg3 harg3 arg4 harg4 arg5 harg5 arg6 harg6 X0 X1 X2 X3 f4 f5 (init6 arg6) k).2.1 (ix2 r (col p n)) = Spec.code (Xr arg0 arg1 arg2 arg3 X0 X1 X2 X3 r p) n)
    ∧ (∀ l : Fin 128, arg6.view.read (Elt Ideal) (ST (F := Ideal) c arg0 harg0 arg1 harg1 arg2 harg2 arg3 harg3 arg4 harg4 arg5 harg5 arg6 harg6 X0 X1 X2 X3 f4 f5 (init6 arg6) k).2.2 (ix2 r l) = if l.val < k then Spec.sc (Xr arg0 arg1 arg2 arg3 X0 X1 X2 X3 r l.val) else 0) := by
  intro k
  induction k with
  | zero =>
    intro _
    rw [ST_zero]
    dsimp only
    refine ⟨fun p n hp => absurd hp (Nat.not_lt_zero _), fun p n hp => absurd hp (Nat.not_lt_zero _), fun l => ?_⟩
    rw [init6_read, if_neg (Nat.not_lt_zero l.val)]
  | succ k ih =>
    intro hk
    obtain ⟨h4, h5, h6⟩ := ih (by omega)
    have hT : k < k0_t1_loop.trips := by have := t1_trips; omega
    have hs : solved c arg0 harg0 arg1 harg1 arg2 harg2 arg3 harg3 arg4 harg4 arg5 harg5 arg6 harg6 X0 X1 X2 X3 ⟨k, hT⟩ (ST (F := Ideal) c arg0 harg0 arg1 harg1 arg2 harg2 arg3 harg3 arg4 harg4 arg5 harg5 arg6 harg6 X0 X1 X2 X3 f4 f5 (init6 arg6) k).2.1 (ST (F := Ideal) c arg0 harg0 arg1 harg1 arg2 harg2 arg3 harg3 arg4 harg4 arg5 harg5 arg6 harg6 X0 X1 X2 X3 f4 f5 (init6 arg6) k).2.2 r = Xr arg0 arg1 arg2 arg3 X0 X1 X2 X3 r k :=
      solved_eq c arg0 harg0 arg1 harg1 arg2 harg2 arg3 harg3 arg4 harg4 arg5 harg5 arg6 harg6 X0 X1 X2 X3 ⟨k, hT⟩ _ _ r h5 (fun l hl => (h6 l).trans (if_pos hl))
    rw [show k + 1 = (⟨k, hT⟩ : Fin k0_t1_loop.trips).val + 1 from rfl, ST_succ]
    dsimp only
    refine ⟨fun p n hp => ?_, fun p n hp => ?_, fun l => ?_⟩
    · rw [trip1_read4 (hp := by omega)]
      dsimp only
      rw [hs]
      by_cases h : p = k
      · subst h; rw [if_pos rfl]
      · rw [if_neg h, h4 p n (by omega)]
    · rw [trip1_read5 (hp := by omega)]
      dsimp only
      rw [hs]
      by_cases h : p = k
      · subst h; rw [if_pos rfl]
      · rw [if_neg h, h5 p n (by omega)]
    · rw [trip1_read6]
      dsimp only
      rw [hs, h6 l]
      by_cases h : l.val = k
      · rw [if_pos h, if_pos (by omega), h]
      · rw [if_neg h]
        by_cases h' : l.val < k
        · rw [if_pos h', if_pos (by omega)]
        · rw [if_neg h', if_neg (by omega)]

/-- What the body leaves in the three results. -/
theorem ST_x (r : Fin 5120) (j : Fin 7680) : arg4.view.read (Elt Ideal) (ST (F := Ideal) c arg0 harg0 arg1 harg1 arg2 harg2 arg3 harg3 arg4 harg4 arg5 harg5 arg6 harg6 X0 X1 X2 X3 f4 f5 (init6 arg6) k0_t1_loop.trips).1 (ix2 r j)
    = Spec.rowX (Bt arg0 X0 r) (Tl arg1 X1) (Ts arg2 X2) (Wt arg3 X3) j := by
  rw [t1_trips]
  conv_lhs => rw [eq_col j]
  rw [(ST_eq c arg0 harg0 arg1 harg1 arg2 harg2 arg3 harg3 arg4 harg4 arg5 harg5 arg6 harg6 X0 X1 X2 X3 f4 f5 r 60 le_rfl).1 _ _ (by omega)]
  rfl
theorem ST_c (r : Fin 5120) (j : Fin 7680) : arg5.view.read (Elt Ideal) (ST (F := Ideal) c arg0 harg0 arg1 harg1 arg2 harg2 arg3 harg3 arg4 harg4 arg5 harg5 arg6 harg6 X0 X1 X2 X3 f4 f5 (init6 arg6) k0_t1_loop.trips).2.1 (ix2 r j)
    = Spec.rowC (Bt arg0 X0 r) (Tl arg1 X1) (Ts arg2 X2) (Wt arg3 X3) j := by
  rw [t1_trips]
  conv_lhs => rw [eq_col j]
  rw [(ST_eq c arg0 harg0 arg1 harg1 arg2 harg2 arg3 harg3 arg4 harg4 arg5 harg5 arg6 harg6 X0 X1 X2 X3 f4 f5 r 60 le_rfl).2.1 _ _ (by omega)]
  rfl
theorem ST_s (r : Fin 5120) (l : Fin 128) : arg6.view.read (Elt Ideal) (ST (F := Ideal) c arg0 harg0 arg1 harg1 arg2 harg2 arg3 harg3 arg4 harg4 arg5 harg5 arg6 harg6 X0 X1 X2 X3 f4 f5 (init6 arg6) k0_t1_loop.trips).2.2 (ix2 r l)
    = Spec.rowS (Bt arg0 X0 r) (Tl arg1 X1) (Ts arg2 X2) (Wt arg3 X3) l := by
  rw [t1_trips, (ST_eq c arg0 harg0 arg1 harg1 arg2 harg2 arg3 harg3 arg4 harg4 arg5 harg5 arg6 harg6 X0 X1 X2 X3 f4 f5 r 60 le_rfl).2.2 l]
  rfl

end Cert.Proof.ReferenceIdeal

end
-- ==== Proof.ReferenceIdealRun.lean ====
/-
  The reference at the exact arithmetic (hand-written): every execution ends with the three outputs
  at the solution of the arguments, its codes and its scales, the arguments unchanged.
-/
module

public import proofs.«01_k».proof.Proof.ReferenceIdealFrame
public import proofs.«01_k».proof.Proof.ReferenceIdealValue
public import proofs.«01_k».proof.Proof.Whole
public import Idealize.ShloMosaic.Lib.Pipeline.Frame
public import Idealize.ShloMosaic.Lib.Tactic
public import Idealize.ShloMosaic.Lib.Pipeline.ValueKit
public import Idealize.ShloMosaic.Lib.Claim
public import Idealize.ShloMosaic.Lib.Pointwise

@[expose] public section

set_option maxRecDepth 16384
set_option maxHeartbeats 400000

noncomputable section

namespace Cert.Proof.ReferenceIdeal

open Cert.ReferenceIdeal Cert.ReferenceIdeal.Gen Cert.Proof Cert.Proof.Panels
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

/-! ## The blocks a point reads -/

/-- Row `r` of the right-hand sides; the tiles, scales and diagonal inverses. -/
def bI (c : Dev nD) (t : Fin cfg0.N) (r : Fin 5120) (p : ℕ) (n : Fin 128) : EReal := iblk (F := Ideal) m c 0 t (ix2 r (col p n))
def tI (c : Dev nD) (t : Fin cfg0.N) (u : ℕ) (n k : Fin 128) : EReal := iblk (F := Ideal) m c 1 t (ix3 (tn u) n k)
def sI (c : Dev nD) (t : Fin cfg0.N) (u : ℕ) : EReal := iblk (F := Ideal) m c 2 t (ix2 (0 : Fin 1) (tn u))
def dI (c : Dev nD) (t : Fin cfg0.N) (b : ℕ) (n k : Fin 128) : EReal := iblk (F := Ideal) m c 3 t (ix3 (bn b) n k)

/-- What the body leaves in the three outputs' blocks. -/
def outX (c : Dev nD) (t : Fin cfg0.N) : S5120x7680.Idx → EReal := fun j => Spec.rowX (bI m c t (j 0)) (tI m c t) (sI m c t) (dI m c t) (j 1)
def outC (c : Dev nD) (t : Fin cfg0.N) : S5120x7680.Idx → EReal := fun j => Spec.rowC (bI m c t (j 0)) (tI m c t) (sI m c t) (dI m c t) (j 1)
def outS (c : Dev nD) (t : Fin cfg0.N) : S5120x128.Idx → EReal := fun j => Spec.rowS (bI m c t (j 0)) (tI m c t) (sI m c t) (dI m c t) (j 1)

/-- The proof data on core `c`: the arrays as the region finds them; an input's buffer left at its block, an output's at
    the solution of the point's rows. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outX m c t
    | ⟨5, _⟩ => outC m c t
    | ⟨6, _⟩ => outS m c t
  Φ _ := Pipeline.ΦA spec0 c
  q _ := fullShare
  owed _ := 0

theorem vA_eq (c : Dev nD) (w : Fin cfg0.W) : (vdats m 0 c).A w = V m c (Pipeline.arrRef spec0 w) := by dsimp only [vdats]

def bodyPreV (c : Dev nD) (t : Fin cfg0.N) : sProp 𝕄 :=
  iprop((vdats m 0 c).Φ t.castSucc ∗ (vdats m 0 c).owesAt () t.castSucc
    ∗ (∃ d, owns (c : Thread nD τ) (st0_0 t) fullShare ((vdats m 0 c).before 0 t d))
    ∗ (∃ d, owns (c : Thread nD τ) (st0_1 t) fullShare ((vdats m 0 c).before 1 t d))
    ∗ (∃ d, owns (c : Thread nD τ) (st0_2 t) fullShare ((vdats m 0 c).before 2 t d))
    ∗ (∃ d, owns (c : Thread nD τ) (st0_3 t) fullShare ((vdats m 0 c).before 3 t d))
    ∗ (∃ d, owns (c : Thread nD τ) (st0_4 t) fullShare ((vdats m 0 c).before 4 t d))
    ∗ (∃ d, owns (c : Thread nD τ) (st0_5 t) fullShare ((vdats m 0 c).before 5 t d))
    ∗ (∃ d, owns (c : Thread nD τ) (st0_6 t) fullShare ((vdats m 0 c).before 6 t d)))
def bodyPostV (c : Dev nD) (t : Fin cfg0.N) : sProp 𝕄 :=
  iprop((vdats m 0 c).Φ t.succ ∗ (vdats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (outX m c t)
    ∗ owns (c : Thread nD τ) (st0_5 t) fullShare (outC m c t)
    ∗ owns (c : Thread nD τ) (st0_6 t) fullShare (outS m c t))

section
variable (c : Dev nD) (t : Fin cfg0.N)
  (f0 : BufTy.Contents (Elt Ideal) (st0_0 t).view.ty) (e0 : (st0_0 t).view.read (Elt Ideal) f0 = iblk m c 0 t)
  (f1 : BufTy.Contents (Elt Ideal) (st0_1 t).view.ty) (e1 : (st0_1 t).view.read (Elt Ideal) f1 = iblk m c 1 t)
  (f2 : BufTy.Contents (Elt Ideal) (st0_2 t).view.ty) (e2 : (st0_2 t).view.read (Elt Ideal) f2 = iblk m c 2 t)
  (f3 : BufTy.Contents (Elt Ideal) (st0_3 t).view.ty) (e3 : (st0_3 t).view.read (Elt Ideal) f3 = iblk m c 3 t)
include e0 in theorem Bt_eq (r : Fin 5120) : Bt (st0_0 t) f0 r = bI m c t r := by funext p n; unfold Bt bI; rw [e0]
include e1 in theorem Tl_eq : Tl (st0_1 t) f1 = tI m c t := by funext u n k; unfold Tl tI; rw [e1]
include e2 in theorem Ts_eq : Ts (st0_2 t) f2 = sI m c t := by funext u; unfold Ts sI; rw [e2]
include e3 in theorem Wt_eq : Wt (st0_3 t) f3 = dI m c t := by funext b n k; unfold Wt dI; rw [e3]
end

/-- The body at a point: the kernel's run between the windows' staging memrefs. -/
theorem sound_bodyV (c : Dev nD) (t : Fin cfg0.N) :
    bodyPreV m c t ⊢ wp frame (wpE (defs₀ (F := Ideal)) 𝒱₀ c none) Set.univ (bodyAt0 t) (fun _ => bodyPostV m c t) := by
  unfold bodyPreV bodyPostV bodyAt0
  rw [show (vdats m 0 c).Φ t.succ = (vdats m 0 c).Φ t.castSucc from rfl,
    show (vdats m 0 c).owesAt () t.succ = (vdats m 0 c).owesAt () t.castSucc from rfl]
  have h0 := before0_0_of m (vdats m 0 c) (vA_eq m c 0) (fun _ => rfl) t
  have h1 := before0_1_of m (vdats m 0 c) (vA_eq m c 1) (fun _ => rfl) t
  have h2 := before0_2_of m (vdats m 0 c) (vA_eq m c 2) (fun _ => rfl) t
  have h3 := before0_3_of m (vdats m 0 c) (vA_eq m c 3) (fun _ => rfl) t
  simp only [h0, h1, h2, h3]
  unfold owns
  iintro ⟨HΦ, HO, ⟨%d0, %f0, %e0, H0⟩, ⟨%d1, %f1, %e1, H1⟩, ⟨%d2, %f2, %e2, H2⟩, ⟨%d3, %f3, %e3, H3⟩, ⟨%d4, %f4, -, H4⟩, ⟨%d5, %f5, -, H5⟩, ⟨%d6, %f6, -, H6⟩⟩
  iapply (kernelRun (F := Ideal) c (st0_0 t) _ (st0_1 t) _ (st0_2 t) _ (st0_3 t) _ (st0_4 t) _ (st0_5 t) _ (st0_6 t) _ f0 f1 f2 f3 f4 f5 f6 _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [HO]; · iexact HO
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists _; isplitr; swap; · iexact H4
    ipureintro
    funext j
    obtain ⟨r, l, rfl⟩ : ∃ (r : Fin 5120) (l : Fin 7680), j = ix2 r l := ⟨j 0, j 1, eq_ix2 (n0 := 5120) (n1 := 7680) j⟩
    refine (ST_x ..).trans ?_
    rw [Bt_eq m c t f0 e0, Tl_eq m c t f1 e1, Ts_eq m c t f2 e2, Wt_eq m c t f3 e3]; rfl
  isplitl [H5]
  · iexists _; isplitr; swap; · iexact H5
    ipureintro
    funext j
    obtain ⟨r, l, rfl⟩ : ∃ (r : Fin 5120) (l : Fin 7680), j = ix2 r l := ⟨j 0, j 1, eq_ix2 (n0 := 5120) (n1 := 7680) j⟩
    refine (ST_c ..).trans ?_
    rw [Bt_eq m c t f0 e0, Tl_eq m c t f1 e1, Ts_eq m c t f2 e2, Wt_eq m c t f3 e3]; rfl
  iexists _; isplitr; swap; · iexact H6
  ipureintro
  funext j
  obtain ⟨r, l, rfl⟩ : ∃ (r : Fin 5120) (l : Fin 128), j = ix2 r l := ⟨j 0, j 1, eq_ix2 (n0 := 5120) (n1 := 128) j⟩
  refine (ST_s ..).trans ?_
  rw [Bt_eq m c t f0 e0, Tl_eq m c t f1 e1, Ts_eq m c t f2 e2, Wt_eq m c t f3 e3]; rfl

theorem body_obligationV (c : Dev nD) :
    BodyObligation (vdats m 0 c) (defs₀ (F := Ideal)) 𝒱₀ () Set.univ := fun t => by
  rw [bigSep_W0, bigSep_W0, defs₀_row]
  exact triple_restated (sound_bodyV m c t) rfl .rfl fun _ => .rfl

theorem shareV_eq (c : Dev nD) (w : Fin cfg0.W) : (vdats m 0 c).share w = fullShare := by
  unfold Dat.share; split <;> rfl

/-! ## The arrays after the run -/

/-- The four arguments by coordinates. -/
def argA (c : Dev nD) (i : Fin 5120) (j : Fin 7680) : EReal := m ((c.tc : Thread nD τ).loc main_arg0) (ix3 (0 : Fin 1) i j)
def argT (c : Dev nD) (u : Fin 1770) (n k : Fin 128) : EReal := m ((c.tc : Thread nD τ).loc main_arg1) (ix4 (0 : Fin 1) u n k)
def argS (c : Dev nD) (u : Fin 1770) : EReal := m ((c.tc : Thread nD τ).loc main_arg2) (ix2 (0 : Fin 1) u)
def argD (c : Dev nD) (b : Fin 60) (n k : Fin 128) : EReal := m ((c.tc : Thread nD τ).loc main_arg3) (ix4 (0 : Fin 1) b n k)

theorem idx0 : ∀ t : Fin cfg0.N, win0_0.index t = ![0, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0, 0] := (by decide +kernel : ∀ t : Fin grid0.N, _)

theorem bI_eq (c : Dev nD) (t : Fin cfg0.N) (r : Fin 5120) : bI m c t r = Whole.rows (argA m c) r := by
  funext p n
  unfold bI Whole.rows argA
  blk_simp [iblk, idx0]
  entry_read
  pointwise
  blk_ext [idx0]

theorem tI_eq (c : Dev nD) (t : Fin cfg0.N) : tI m c t = Whole.tiles (argT m c) := by
  funext u n k
  unfold tI Whole.tiles argT
  blk_simp [iblk, idx1]
  entry_read
  pointwise
  blk_ext [idx1]

theorem sI_eq (c : Dev nD) (t : Fin cfg0.N) : sI m c t = Whole.words (argS m c) := by
  funext u
  unfold sI Whole.words argS
  blk_simp [iblk, idx2]
  entry_read
  pointwise
  blk_ext [idx2]

theorem dI_eq (c : Dev nD) (t : Fin cfg0.N) : dI m c t = Whole.diags (argD m c) := by
  funext b n k
  unfold dI Whole.diags argD
  blk_simp [iblk, idx3]
  entry_read
  pointwise
  blk_ext [idx3]

/-- The three results. -/
def resX (c : Dev nD) : Buf (Elt Ideal) ((c.tc : Thread nD τ).loc main_v3_0) :=
  fun j : S5120x7680.Idx => (Whole.solX (argA m c) (argT m c) (argS m c) (argD m c) (j 0) (j 1) : EReal)
def resC (c : Dev nD) : Buf (Elt Ideal) ((c.tc : Thread nD τ).loc main_v3_1) :=
  fun j : S5120x7680.Idx => (Whole.solC (argA m c) (argT m c) (argS m c) (argD m c) (j 0) (j 1) : EReal)
def resS (c : Dev nD) : Buf (Elt Ideal) ((c.tc : Thread nD τ).loc main_v3_2) :=
  fun j : S5120x128.Idx => (Whole.solS (argA m c) (argT m c) (argS m c) (argD m c) (j 0) (j 1) : EReal)

theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

theorem final_x (c : Dev nD) : (vdats m 0 c).arrAt 4 cfg0.N = resX m c := by
  refine (vdats m 0 c).arrAt_eq_of_covers 4 _ (by decide +kernel) fun t hf y => ?_
  blk_simp
  obtain ⟨r, l, rfl⟩ : ∃ (r : Fin 5120) (l : Fin 7680), y = ix2 r l := ⟨y 0, y 1, eq_ix2 (n0 := 5120) (n1 := 7680) y⟩
  show Spec.rowX (bI m c t r) (tI m c t) (sI m c t) (dI m c t) l = _
  unfold resX Whole.solX
  rw [bI_eq, tI_eq, sI_eq, dI_eq]
  have e : (win0_4.blk t).view.emb (ix2 r l) = ix2 r l := by blk_ext [idx4]
  rw [e]
  rfl

theorem final_c (c : Dev nD) : (vdats m 0 c).arrAt 5 cfg0.N = resC m c := by
  refine (vdats m 0 c).arrAt_eq_of_covers 5 _ (by decide +kernel) fun t hf y => ?_
  blk_simp
  obtain ⟨r, l, rfl⟩ : ∃ (r : Fin 5120) (l : Fin 7680), y = ix2 r l := ⟨y 0, y 1, eq_ix2 (n0 := 5120) (n1 := 7680) y⟩
  show Spec.rowC (bI m c t r) (tI m c t) (sI m c t) (dI m c t) l = _
  unfold resC Whole.solC
  rw [bI_eq, tI_eq, sI_eq, dI_eq]
  have e : (win0_5.blk t).view.emb (ix2 r l) = ix2 r l := by blk_ext [idx5]
  rw [e]
  rfl

theorem final_s (c : Dev nD) : (vdats m 0 c).arrAt 6 cfg0.N = resS m c := by
  refine (vdats m 0 c).arrAt_eq_of_covers 6 _ (by decide +kernel) fun t hf y => ?_
  blk_simp
  obtain ⟨r, l, rfl⟩ : ∃ (r : Fin 5120) (l : Fin 128), y = ix2 r l := ⟨y 0, y 1, eq_ix2 (n0 := 5120) (n1 := 128) y⟩
  show Spec.rowS (bI m c t r) (tI m c t) (sI m c t) (dI m c t) l = _
  unfold resS Whole.solS
  rw [bI_eq, tI_eq, sI_eq, dI_eq]
  have e : (win0_6.blk t).view.emb (ix2 r l) = ix2 r l := by blk_ext [idx6]
  rw [e]
  rfl

set_option backward.isDefEq.respectTransparency.types false in
/-- Every execution ends with the three results at the solution, its codes and its scales, the arguments unchanged. -/
theorem run_value :
    θ_run defs (onTc (τ := τ) (main (F := Ideal))) ⟨m, fun _ => 0, ρ⟩ (fun r => ∀ c : Dev nD,
      r.2.mem ((c.tc : Thread nD τ).loc main_v3_0) = resX m c
      ∧ r.2.mem ((c.tc : Thread nD τ).loc main_v3_1) = resC m c
      ∧ r.2.mem ((c.tc : Thread nD τ).loc main_v3_2) = resS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_frame cfgs (vdats m) (0 : Fin 1) launch0 defs₀ 𝒱₀ m ρ main
    (fun c => (body_obligationV m c).loose) (shareV_eq m) (fun _ _ => rfl) (V m) (hmain m 𝒱₀) (vA_eq m) (fun _ _ => rfl)
    (Q' := _)
    (hQ' := fun _ h c => ⟨((h.1 c).1 4).trans (final_x m c), ((h.1 c).1 5).trans (final_c m c), ((h.1 c).1 6).trans (final_s m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 2).trans (((vdats m 0 c).arrAt_in 2 rfl _).trans ((vA_eq m c 2).trans (V_main_arg2 m c))),
      ((h.1 c).2 main_arg3 (Pipeline.mem_restRefs_of main_arg3 (by decide) (by decide))).trans (V_main_arg3 m c)⟩)

end Cert.Proof.ReferenceIdeal

end
-- ==== Proof.Agree.lean ====
/-
  From memories that agree on the four arguments, the reference's three results are the kernel's (hand-written).
-/
module

public import proofs.«01_k».proof.Defs
public import proofs.«01_k».proof.Proof.KernelIdealRun
public import proofs.«01_k».proof.Proof.ReferenceIdealRun

@[expose] public section

noncomputable section

open Idealize Idealize.ShloMosaic Idealize.SL
open scoped Idealize

namespace Cert.Proof

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

theorem argA_agree (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    ReferenceIdeal.argA m' c = KernelIdeal.argA m c := by
  funext i j; unfold ReferenceIdeal.argA KernelIdeal.argA; exact congrFun h _
theorem argT_agree (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    ReferenceIdeal.argT m' c = KernelIdeal.argT m c := by
  funext u n k; unfold ReferenceIdeal.argT KernelIdeal.argT; exact congrFun h _
theorem argS_agree (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    ReferenceIdeal.argS m' c = KernelIdeal.argS m c := by
  funext u; unfold ReferenceIdeal.argS KernelIdeal.argS; exact congrFun h _
theorem argD_agree (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    ReferenceIdeal.argD m' c = KernelIdeal.argD m c := by
  funext b n k; unfold ReferenceIdeal.argD KernelIdeal.argD; exact congrFun h _

/-- The kernel's outputs equal the reference's at the exact arithmetic: both are the solution, its codes and its scales. -/
theorem agree : Cert.algebraic_KernelIdeal_ReferenceIdeal (hKernelIdeal := Cert.KernelIdeal.Gen.facts) (hReferenceIdeal := Cert.ReferenceIdeal.Gen.facts) := by
  intro m g m' g' _ h
  refine ⟨KernelIdeal.resX m, KernelIdeal.resC m, KernelIdeal.resS m, KernelIdeal.run_value m g, ?_⟩
  refine θ_run_mono (ReferenceIdeal.run_value m' g') fun r hr c => ?_
  obtain ⟨hx, hc, hs, hargs⟩ := hr c
  obtain ⟨h0, h1, h2, h3⟩ := h c
  have e0 := argA_agree m m' c h0
  have e1 := argT_agree m m' c h1
  have e2 := argS_agree m m' c h2
  have e3 := argD_agree m m' c h3
  refine ⟨hx.trans ?_, hc.trans ?_, hs.trans ?_, hargs⟩
  · unfold ReferenceIdeal.resX KernelIdeal.resX; rw [e0, e1, e2, e3]
  · unfold ReferenceIdeal.resC KernelIdeal.resC; rw [e0, e1, e2, e3]
  · unfold ReferenceIdeal.resS KernelIdeal.resS; rw [e0, e1, e2, e3]

end Cert.Proof
-- ==== Proof.lean ====
module

public import proofs.«01_k».proof.Defs
public import proofs.«01_k».proof.Proof.KernelFrame
public import proofs.«01_k».proof.Proof.KernelIdealFrame
public import proofs.«01_k».proof.Proof.ReferenceIdealFrame
public import proofs.«01_k».proof.Proof.Agree

@[expose] public section

noncomputable section

open Idealize Idealize.ShloMosaic Idealize.SL
open scoped Idealize

namespace Cert.Proof

/-- The frames of the three programs, the passage from words to reals, and the kernel's results equal to the
    reference's. -/
theorem claim : Cert.Claim :=
  ⟨Cert.Kernel.Gen.facts, Cert.KernelIdeal.Gen.facts, Cert.ReferenceIdeal.Gen.facts,
    fun m g _ => Cert.Proof.Kernel.run_frame m g,
    fun m g _ => Cert.Proof.KernelIdeal.run_frame m g,
    fun m g _ => Cert.Proof.ReferenceIdeal.run_frame m g, trivial, Cert.Proof.agree⟩

end Cert.Proof
